-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ preserves_Kernel_KernelIdeal
    ∧ algebraic_KernelIdeal_ReferenceIdeal (hKernelIdeal := hKernelIdeal) (hReferenceIdeal := hReferenceIdeal)
    ∧ preserves_Kernel2_Kernel2Ideal
-- ==== Kernel.lean ====
abbrev S2x4096x2048 : Shape := ⟨3, ![2, 4096, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S2048x8192 : Shape := ⟨2, ![2048, 8192]⟩
abbrev S8192x2048 : Shape := ⟨2, ![8192, 2048]⟩
abbrev S512x2048 : Shape := ⟨2, ![512, 2048]⟩
abbrev S2x512x2048 : Shape := ⟨3, ![2, 512, 2048]⟩
abbrev S2 : Shape := ⟨1, ![2]⟩
abbrev S2x2048x2048 : Shape := ⟨3, ![2, 2048, 2048]⟩
abbrev S_ : Shape := ⟨0, ![]⟩
abbrev S1 : Shape := ⟨1, ![1]⟩
abbrev S1x512x2048 : Shape := ⟨3, ![1, 512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 14
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S2048x8192, .f32⟩
  | .hbm, ⟨9, _⟩ => ⟨S2048x8192, .bf16⟩
  | .hbm, ⟨10, _⟩ => ⟨S8192x2048, .f32⟩
  | .hbm, ⟨11, _⟩ => ⟨S8192x2048, .bf16⟩
  | .hbm, ⟨12, _⟩ => ⟨S8192x2048, .f32⟩
  | .hbm, ⟨13, _⟩ => ⟨S8192x2048, .f32⟩
  | .local _ .vmem, ⟨0, _⟩ => ⟨S512x2048, .bf16⟩
  | .local _ .vmem, ⟨1, _⟩ => ⟨S2x512x2048, .f32⟩
  | .local _ .vmem, ⟨2, _⟩ => ⟨S1x2048, .f32⟩
  | .local _ .vmem, ⟨3, _⟩ => ⟨S2x2048x2048, .bf16⟩
  | .local _ .vmem, ⟨4, _⟩ => ⟨S2x2048x2048, .bf16⟩
  | .local _ .vmem, ⟨5, _⟩ => ⟨S1x2048, .f32⟩
  | .local _ .vmem, ⟨6, _⟩ => ⟨S2x512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_scratch0 : Ref sig .tc := ⟨.vmem, 0, rfl⟩
abbrev cc0_scoped0 : Ref sig .tc := ⟨.vmem, 1, rfl⟩
abbrev cc0_scoped2 : Ref sig .tc := ⟨.vmem, 2, rfl⟩
abbrev cc0_scoped3 : Ref sig .tc := ⟨.vmem, 3, rfl⟩
abbrev cc0_scoped5 : Ref sig .tc := ⟨.vmem, 4, rfl⟩
abbrev cc0_scoped7 : Ref sig .tc := ⟨.vmem, 5, rfl⟩
abbrev cc0_scoped8 : Ref sig .tc := ⟨.vmem, 6, rfl⟩

abbrev nD : Nat := 1
abbrev τ : Topo := Topo.v7x

variable {F : FTy → Type} [FloatOps F]

abbrev grid0 : Pipeline.Grid := .none

def k0_off1 : Fin 1 → Nat :=
  let c0_i32_28_r0 : BitVec 32 := 0#32
  let c2_i32_r0 : BitVec 32 := 2#32
  let v30_r0 : BitVec 32 := Scalar.remui c0_i32_28_r0 c2_i32_r0
  ![v30_r0.toNat]
def k0_off2 : Fin 3 → Nat :=
  let c0_i32_28_r0 : BitVec 32 := 0#32
  let c2_i32_r0 : BitVec 32 := 2#32
  let v30_r0 : BitVec 32 := Scalar.remui c0_i32_28_r0 c2_i32_r0
  let c0_i32_29_r0 : BitVec 32 := 0#32
  let c0_i32_30_r0 : BitVec 32 := 0#32
  ![v30_r0.toNat, 0, 0]
def k0_off3 : Fin 3 → Nat :=
  let c0_i32_35_r0 : BitVec 32 := 0#32
  let c2_i32_36_r0 : BitVec 32 := 2#32
  let v37_r0 : BitVec 32 := Scalar.remui c0_i32_35_r0 c2_i32_36_r0
  let c0_i32_37_r0 : BitVec 32 := 0#32
  let c0_i32_38_r0 : BitVec 32 := 0#32
  ![v37_r0.toNat, 0, 0]
@[reducible] def k0_t1_loop : Scf.Loop 32 :=
  let c0_i32_62_r0 : BitVec 32 := 0#32
  let c64_i32_r0 : BitVec 32 := 64#32
  let v51_r0 : BitVec 32 := Scalar.addi c0_i32_62_r0 c64_i32_r0
  let c1_i32_63_r0 : BitVec 32 := 1#32
  ⟨c0_i32_62_r0, v51_r0, c1_i32_63_r0⟩
def k0_off4 (arg8_r0 : BitVec 32) : Fin 1 → Nat :=
  let c2_i32_210_r0 : BitVec 32 := 2#32
  let v283_r0 : BitVec 32 := Scalar.remui arg8_r0 c2_i32_210_r0
  ![v283_r0.toNat]
def k0_cond1 (k0_t1 : Fin k0_t1_loop.trips) (arg18_r0 : BitVec 32) (arg19_r0 : BitVec 32) : BitVec 1 :=
  let c0_i32_106_r0 : BitVec 32 := 0#32
  let v102_r0 : BitVec 32 := Scalar.addi arg18_r0 c0_i32_106_r0
  let true_118_r0 : BitVec 1 := 1#1
  let c1_i32_117_r0 : BitVec 32 := 1#32
  let v114_r0 : BitVec 32 := Scalar.addi arg19_r0 c1_i32_117_r0
  let v115_r0 : BitVec 32 := Scalar.select true_118_r0 v114_r0 arg19_r0
  let c4_i32_119_r0 : BitVec 32 := 4#32
  let v116_r0 : BitVec 1 := Scalar.cmpi .eq v115_r0 c4_i32_119_r0
  let c1_i32_121_r0 : BitVec 32 := 1#32
  let v118_r0 : BitVec 32 := Scalar.addi arg18_r0 c1_i32_121_r0
  let v119_r0 : BitVec 32 := Scalar.select v116_r0 v118_r0 arg18_r0
  let c16_i32_122_r0 : BitVec 32 := 16#32
  let v120_r0 : BitVec 1 := Scalar.cmpi .eq v119_r0 c16_i32_122_r0
  let c0_i32_123_r0 : BitVec 32 := 0#32
  let v121_r0 : BitVec 32 := Scalar.select v120_r0 c0_i32_123_r0 v119_r0
  let c0_i32_124_r0 : BitVec 32 := 0#32
  let v122_r0 : BitVec 32 := Scalar.addi v121_r0 c0_i32_124_r0
  let v134_r0 : BitVec 1 := Scalar.cmpi .ne v102_r0 v122_r0
  let c0_i32_62_r0 : BitVec 32 := 0#32
  let c1_i32_63_r0 : BitVec 32 := 1#32
  let arg7_r0 : BitVec 32 := Scf.iv c0_i32_62_r0 c1_i32_63_r0 k0_t1
  let c63_i32_135_r0 : BitVec 32 := 63#32
  let v135_r0 : BitVec 1 := Scalar.cmpi .sge arg7_r0 c63_i32_135_r0
  let true_136_r0 : BitVec 1 := 1#1
  let v136_r0 : BitVec 1 := Scalar.xori v135_r0 true_136_r0
  let v137_r0 : BitVec 1 := Scalar.andi v134_r0 v136_r0
  let true_137_r0 : BitVec 1 := 1#1
  let v138_r0 : BitVec 1 := Scalar.andi v137_r0 true_137_r0
  let v139_r0 : BitVec 32 := Scalar.extui v138_r0
  let c0_i32_138_r0 : BitVec 32 := 0#32
  let v140_r0 : BitVec 1 := Scalar.cmpi .ne v139_r0 c0_i32_138_r0
  v140_r0

def k0_off5 (arg8_r0 : BitVec 32) : Fin 3 → Nat :=
  let c2_i32_210_r0 : BitVec 32 := 2#32
  let v283_r0 : BitVec 32 := Scalar.remui arg8_r0 c2_i32_210_r0
  let c0_i32_212_r0 : BitVec 32 := 0#32
  let c0_i32_213_r0 : BitVec 32 := 0#32
  ![v283_r0.toNat, 0, 0]
def k0_off6 (arg18_r0 : BitVec 32) (arg19_r0 : BitVec 32) : Fin 2 → Nat :=
  let c512_i32_211_r0 : BitVec 32 := 512#32
  let true_118_r0 : BitVec 1 := 1#1
  let c1_i32_117_r0 : BitVec 32 := 1#32
  let v114_r0 : BitVec 32 := Scalar.addi arg19_r0 c1_i32_117_r0
  let v115_r0 : BitVec 32 := Scalar.select true_118_r0 v114_r0 arg19_r0
  let c4_i32_119_r0 : BitVec 32 := 4#32
  let v116_r0 : BitVec 1 := Scalar.cmpi .eq v115_r0 c4_i32_119_r0
  let c1_i32_121_r0 : BitVec 32 := 1#32
  let v118_r0 : BitVec 32 := Scalar.addi arg18_r0 c1_i32_121_r0
  let v119_r0 : BitVec 32 := Scalar.select v116_r0 v118_r0 arg18_r0
  let c16_i32_122_r0 : BitVec 32 := 16#32
  let v120_r0 : BitVec 1 := Scalar.cmpi .eq v119_r0 c16_i32_122_r0
  let c0_i32_123_r0 : BitVec 32 := 0#32
  let v121_r0 : BitVec 32 := Scalar.select v120_r0 c0_i32_123_r0 v119_r0
  let c0_i32_124_r0 : BitVec 32 := 0#32
  let v122_r0 : BitVec 32 := Scalar.addi v121_r0 c0_i32_124_r0
  let v284_r0 : BitVec 32 := Scalar.muli c512_i32_211_r0 v122_r0
  let c0_i32_214_r0 : BitVec 32 := 0#32
  ![v284_r0.toNat, 0]
def k0_off7 (arg11_r0 : BitVec 32) : Fin 1 → Nat :=
  let c2_i32_210_r0 : BitVec 32 := 2#32
  let v283_r0 : BitVec 32 := Scalar.remui arg11_r0 c2_i32_210_r0
  ![v283_r0.toNat]
def k0_cond2 (k0_t1 : Fin k0_t1_loop.trips) (arg19_r0 : BitVec 32) : BitVec 1 :=
  let c0_i32_107_r0 : BitVec 32 := 0#32
  let v103_r0 : BitVec 32 := Scalar.addi arg19_r0 c0_i32_107_r0
  let true_118_r0 : BitVec 1 := 1#1
  let c1_i32_117_r0 : BitVec 32 := 1#32
  let v114_r0 : BitVec 32 := Scalar.addi arg19_r0 c1_i32_117_r0
  let v115_r0 : BitVec 32 := Scalar.select true_118_r0 v114_r0 arg19_r0
  let c4_i32_119_r0 : BitVec 32 := 4#32
  let v116_r0 : BitVec 1 := Scalar.cmpi .eq v115_r0 c4_i32_119_r0
  let c0_i32_120_r0 : BitVec 32 := 0#32
  let v117_r0 : BitVec 32 := Scalar.select v116_r0 c0_i32_120_r0 v115_r0
  let c0_i32_125_r0 : BitVec 32 := 0#32
  let v123_r0 : BitVec 32 := Scalar.addi v117_r0 c0_i32_125_r0
  let v144_r0 : BitVec 1 := Scalar.cmpi .ne v103_r0 v123_r0
  let c0_i32_62_r0 : BitVec 32 := 0#32
  let c1_i32_63_r0 : BitVec 32 := 1#32
  let arg7_r0 : BitVec 32 := Scf.iv c0_i32_62_r0 c1_i32_63_r0 k0_t1
  let c63_i32_141_r0 : BitVec 32 := 63#32
  let v145_r0 : BitVec 1 := Scalar.cmpi .sge arg7_r0 c63_i32_141_r0
  let true_142_r0 : BitVec 1 := 1#1
  let v146_r0 : BitVec 1 := Scalar.xori v145_r0 true_142_r0
  let v147_r0 : BitVec 1 := Scalar.andi v144_r0 v146_r0
  let true_143_r0 : BitVec 1 := 1#1
  let v148_r0 : BitVec 1 := Scalar.andi v147_r0 true_143_r0
  let v149_r0 : BitVec 32 := Scalar.extui v148_r0
  let c0_i32_144_r0 : BitVec 32 := 0#32
  let v150_r0 : BitVec 1 := Scalar.cmpi .ne v149_r0 c0_i32_144_r0
  v150_r0

def k0_off8 (arg11_r0 : BitVec 32) : Fin 3 → Nat :=
  let c2_i32_210_r0 : BitVec 32 := 2#32
  let v283_r0 : BitVec 32 := Scalar.remui arg11_r0 c2_i32_210_r0
  let c0_i32_211_r0 : BitVec 32 := 0#32
  let c0_i32_212_r0 : BitVec 32 := 0#32
  ![v283_r0.toNat, 0, 0]
def k0_off9 (arg19_r0 : BitVec 32) : Fin 2 → Nat :=
  let c0_i32_213_r0 : BitVec 32 := 0#32
  let c2048_i32_r0 : BitVec 32 := 2048#32
  let true_118_r0 : BitVec 1 := 1#1
  let c1_i32_117_r0 : BitVec 32 := 1#32
  let v114_r0 : BitVec 32 := Scalar.addi arg19_r0 c1_i32_117_r0
  let v115_r0 : BitVec 32 := Scalar.select true_118_r0 v114_r0 arg19_r0
  let c4_i32_119_r0 : BitVec 32 := 4#32
  let v116_r0 : BitVec 1 := Scalar.cmpi .eq v115_r0 c4_i32_119_r0
  let c0_i32_120_r0 : BitVec 32 := 0#32
  let v117_r0 : BitVec 32 := Scalar.select v116_r0 c0_i32_120_r0 v115_r0
  let c0_i32_125_r0 : BitVec 32 := 0#32
  let v123_r0 : BitVec 32 := Scalar.addi v117_r0 c0_i32_125_r0
  let v284_r0 : BitVec 32 := Scalar.muli c2048_i32_r0 v123_r0
  ![0, v284_r0.toNat]
def k0_off10 (arg13_r0 : BitVec 32) : Fin 1 → Nat :=
  let c2_i32_210_r0 : BitVec 32 := 2#32
  let v283_r0 : BitVec 32 := Scalar.remui arg13_r0 c2_i32_210_r0
  ![v283_r0.toNat]
def k0_cond3 (k0_t1 : Fin k0_t1_loop.trips) (arg19_r0 : BitVec 32) : BitVec 1 :=
  let c0_i32_107_r0 : BitVec 32 := 0#32
  let v103_r0 : BitVec 32 := Scalar.addi arg19_r0 c0_i32_107_r0
  let true_118_r0 : BitVec 1 := 1#1
  let c1_i32_117_r0 : BitVec 32 := 1#32
  let v114_r0 : BitVec 32 := Scalar.addi arg19_r0 c1_i32_117_r0
  let v115_r0 : BitVec 32 := Scalar.select true_118_r0 v114_r0 arg19_r0
  let c4_i32_119_r0 : BitVec 32 := 4#32
  let v116_r0 : BitVec 1 := Scalar.cmpi .eq v115_r0 c4_i32_119_r0
  let c0_i32_120_r0 : BitVec 32 := 0#32
  let v117_r0 : BitVec 32 := Scalar.select v116_r0 c0_i32_120_r0 v115_r0
  let c0_i32_125_r0 : BitVec 32 := 0#32
  let v123_r0 : BitVec 32 := Scalar.addi v117_r0 c0_i32_125_r0
  let v154_r0 : BitVec 1 := Scalar.cmpi .ne v103_r0 v123_r0
  let c0_i32_62_r0 : BitVec 32 := 0#32
  let c1_i32_63_r0 : BitVec 32 := 1#32
  let arg7_r0 : BitVec 32 := Scf.iv c0_i32_62_r0 c1_i32_63_r0 k0_t1
  let c63_i32_147_r0 : BitVec 32 := 63#32
  let v155_r0 : BitVec 1 := Scalar.cmpi .sge arg7_r0 c63_i32_147_r0
  let true_148_r0 : BitVec 1 := 1#1
  let v156_r0 : BitVec 1 := Scalar.xori v155_r0 true_148_r0
  let v157_r0 : BitVec 1 := Scalar.andi v154_r0 v156_r0
  let true_149_r0 : BitVec 1 := 1#1
  let v158_r0 : BitVec 1 := Scalar.andi v157_r0 true_149_r0
  let v159_r0 : BitVec 32 := Scalar.extui v158_r0
  let c0_i32_150_r0 : BitVec 32 := 0#32
  let v160_r0 : BitVec 1 := Scalar.cmpi .ne v159_r0 c0_i32_150_r0
  v160_r0

def k0_off11 (arg13_r0 : BitVec 32) : Fin 3 → Nat :=
  let c2_i32_210_r0 : BitVec 32 := 2#32
  let v283_r0 : BitVec 32 := Scalar.remui arg13_r0 c2_i32_210_r0
  let c0_i32_211_r0 : BitVec 32 := 0#32
  let c0_i32_212_r0 : BitVec 32 := 0#32
  ![v283_r0.toNat, 0, 0]
def k0_off12 (arg19_r0 : BitVec 32) : Fin 2 → Nat :=
  let c2048_i32_r0 : BitVec 32 := 2048#32
  let true_118_r0 : BitVec 1 := 1#1
  let c1_i32_117_r0 : BitVec 32 := 1#32
  let v114_r0 : BitVec 32 := Scalar.addi arg19_r0 c1_i32_117_r0
  let v115_r0 : BitVec 32 := Scalar.select true_118_r0 v114_r0 arg19_r0
  let c4_i32_119_r0 : BitVec 32 := 4#32
  let v116_r0 : BitVec 1 := Scalar.cmpi .eq v115_r0 c4_i32_119_r0
  let c0_i32_120_r0 : BitVec 32 := 0#32
  let v117_r0 : BitVec 32 := Scalar.select v116_r0 c0_i32_120_r0 v115_r0
  let c0_i32_125_r0 : BitVec 32 := 0#32
  let v123_r0 : BitVec 32 := Scalar.addi v117_r0 c0_i32_125_r0
  let v284_r0 : BitVec 32 := Scalar.muli c2048_i32_r0 v123_r0
  let c0_i32_213_r0 : BitVec 32 := 0#32
  ![v284_r0.toNat, 0]
def k0_off13 (arg9_r0 : BitVec 32) : Fin 1 → Nat :=
  let c2_i32_211_r0 : BitVec 32 := 2#32
  let v284_r0 : BitVec 32 := Scalar.remui arg9_r0 c2_i32_211_r0
  ![v284_r0.toNat]
def k0_cond4 (k0_t1 : Fin k0_t1_loop.trips) (arg18_r0 : BitVec 32) (arg19_r0 : BitVec 32) : BitVec 1 :=
  let c0_i32_106_r0 : BitVec 32 := 0#32
  let v102_r0 : BitVec 32 := Scalar.addi arg18_r0 c0_i32_106_r0
  let true_109_r0 : BitVec 1 := 1#1
  let c1_i32_108_r0 : BitVec 32 := 1#32
  let v104_r0 : BitVec 32 := Scalar.subi arg19_r0 c1_i32_108_r0
  let v105_r0 : BitVec 32 := Scalar.select true_109_r0 v104_r0 arg19_r0
  let c_m1_i32_110_r0 : BitVec 32 := 4294967295#32
  let v106_r0 : BitVec 1 := Scalar.cmpi .eq v105_r0 c_m1_i32_110_r0
  let c1_i32_112_r0 : BitVec 32 := 1#32
  let v108_r0 : BitVec 32 := Scalar.subi arg18_r0 c1_i32_112_r0
  let v109_r0 : BitVec 32 := Scalar.select v106_r0 v108_r0 arg18_r0
  let c_m1_i32_113_r0 : BitVec 32 := 4294967295#32
  let v110_r0 : BitVec 1 := Scalar.cmpi .eq v109_r0 c_m1_i32_113_r0
  let c15_i32_114_r0 : BitVec 32 := 15#32
  let v111_r0 : BitVec 32 := Scalar.select v110_r0 c15_i32_114_r0 v109_r0
  let c0_i32_115_r0 : BitVec 32 := 0#32
  let v112_r0 : BitVec 32 := Scalar.addi v111_r0 c0_i32_115_r0
  let v168_r0 : BitVec 1 := Scalar.cmpi .ne v102_r0 v112_r0
  let c0_i32_62_r0 : BitVec 32 := 0#32
  let c1_i32_63_r0 : BitVec 32 := 1#32
  let arg7_r0 : BitVec 32 := Scf.iv c0_i32_62_r0 c1_i32_63_r0 k0_t1
  let c0_i32_105_r0 : BitVec 32 := 0#32
  let v100_r0 : BitVec 1 := Scalar.cmpi .eq arg7_r0 c0_i32_105_r0
  let v169_r0 : BitVec 1 := Scalar.ori v168_r0 v100_r0
  let c0_i32_155_r0 : BitVec 32 := 0#32
  let v170_r0 : BitVec 1 := Scalar.cmpi .sge arg7_r0 c0_i32_155_r0
  let v171_r0 : BitVec 1 := Scalar.andi v169_r0 v170_r0
  let v172_r0 : BitVec 32 := Scalar.extui v171_r0
  let c0_i32_156_r0 : BitVec 32 := 0#32
  let v173_r0 : BitVec 1 := Scalar.cmpi .ne v172_r0 c0_i32_156_r0
  v173_r0

def k0_off14 (arg9_r0 : BitVec 32) : Fin 3 → Nat :=
  let c2_i32_211_r0 : BitVec 32 := 2#32
  let v284_r0 : BitVec 32 := Scalar.remui arg9_r0 c2_i32_211_r0
  let c0_i32_212_r0 : BitVec 32 := 0#32
  let c0_i32_213_r0 : BitVec 32 := 0#32
  ![v284_r0.toNat, 0, 0]
def k0_off15 (arg18_r0 : BitVec 32) : Fin 2 → Nat :=
  let c512_i32_210_r0 : BitVec 32 := 512#32
  let c0_i32_106_r0 : BitVec 32 := 0#32
  let v102_r0 : BitVec 32 := Scalar.addi arg18_r0 c0_i32_106_r0
  let v283_r0 : BitVec 32 := Scalar.muli c512_i32_210_r0 v102_r0
  let c0_i32_214_r0 : BitVec 32 := 0#32
  ![v283_r0.toNat, 0]
def k0_off16 (arg12_r0 : BitVec 32) : Fin 1 → Nat :=
  let c2_i32_210_r0 : BitVec 32 := 2#32
  let v284_r0 : BitVec 32 := Scalar.remui arg12_r0 c2_i32_210_r0
  ![v284_r0.toNat]
def k0_cond5 (k0_t1 : Fin k0_t1_loop.trips) (arg19_r0 : BitVec 32) : BitVec 1 :=
  let c0_i32_107_r0 : BitVec 32 := 0#32
  let v103_r0 : BitVec 32 := Scalar.addi arg19_r0 c0_i32_107_r0
  let true_109_r0 : BitVec 1 := 1#1
  let c1_i32_108_r0 : BitVec 32 := 1#32
  let v104_r0 : BitVec 32 := Scalar.subi arg19_r0 c1_i32_108_r0
  let v105_r0 : BitVec 32 := Scalar.select true_109_r0 v104_r0 arg19_r0
  let c_m1_i32_110_r0 : BitVec 32 := 4294967295#32
  let v106_r0 : BitVec 1 := Scalar.cmpi .eq v105_r0 c_m1_i32_110_r0
  let c3_i32_111_r0 : BitVec 32 := 3#32
  let v107_r0 : BitVec 32 := Scalar.select v106_r0 c3_i32_111_r0 v105_r0
  let c0_i32_116_r0 : BitVec 32 := 0#32
  let v113_r0 : BitVec 32 := Scalar.addi v107_r0 c0_i32_116_r0
  let v174_r0 : BitVec 1 := Scalar.cmpi .ne v103_r0 v113_r0
  let c0_i32_62_r0 : BitVec 32 := 0#32
  let c1_i32_63_r0 : BitVec 32 := 1#32
  let arg7_r0 : BitVec 32 := Scf.iv c0_i32_62_r0 c1_i32_63_r0 k0_t1
  let c0_i32_105_r0 : BitVec 32 := 0#32
  let v100_r0 : BitVec 1 := Scalar.cmpi .eq arg7_r0 c0_i32_105_r0
  let v175_r0 : BitVec 1 := Scalar.ori v174_r0 v100_r0
  let c0_i32_157_r0 : BitVec 32 := 0#32
  let v176_r0 : BitVec 1 := Scalar.cmpi .sge arg7_r0 c0_i32_157_r0
  let v177_r0 : BitVec 1 := Scalar.andi v175_r0 v176_r0
  let v178_r0 : BitVec 32 := Scalar.extui v177_r0
  let c0_i32_158_r0 : BitVec 32 := 0#32
  let v179_r0 : BitVec 1 := Scalar.cmpi .ne v178_r0 c0_i32_158_r0
  v179_r0

def k0_off17 (arg12_r0 : BitVec 32) : Fin 3 → Nat :=
  let c2_i32_210_r0 : BitVec 32 := 2#32
  let v284_r0 : BitVec 32 := Scalar.remui arg12_r0 c2_i32_210_r0
  let c0_i32_211_r0 : BitVec 32 := 0#32
  let c0_i32_212_r0 : BitVec 32 := 0#32
  ![v284_r0.toNat, 0, 0]
def k0_off18 (arg19_r0 : BitVec 32) : Fin 2 → Nat :=
  let c0_i32_213_r0 : BitVec 32 := 0#32
  let c2048_i32_r0 : BitVec 32 := 2048#32
  let c0_i32_107_r0 : BitVec 32 := 0#32
  let v103_r0 : BitVec 32 := Scalar.addi arg19_r0 c0_i32_107_r0
  let v283_r0 : BitVec 32 := Scalar.muli c2048_i32_r0 v103_r0
  ![0, v283_r0.toNat]
def k0_off19 (arg14_r0 : BitVec 32) : Fin 1 → Nat :=
  let c2_i32_210_r0 : BitVec 32 := 2#32
  let v284_r0 : BitVec 32 := Scalar.remui arg14_r0 c2_i32_210_r0
  ![v284_r0.toNat]
def k0_cond6 (k0_t1 : Fin k0_t1_loop.trips) (arg19_r0 : BitVec 32) : BitVec 1 :=
  let c0_i32_107_r0 : BitVec 32 := 0#32
  let v103_r0 : BitVec 32 := Scalar.addi arg19_r0 c0_i32_107_r0
  let true_109_r0 : BitVec 1 := 1#1
  let c1_i32_108_r0 : BitVec 32 := 1#32
  let v104_r0 : BitVec 32 := Scalar.subi arg19_r0 c1_i32_108_r0
  let v105_r0 : BitVec 32 := Scalar.select true_109_r0 v104_r0 arg19_r0
  let c_m1_i32_110_r0 : BitVec 32 := 4294967295#32
  let v106_r0 : BitVec 1 := Scalar.cmpi .eq v105_r0 c_m1_i32_110_r0
  let c3_i32_111_r0 : BitVec 32 := 3#32
  let v107_r0 : BitVec 32 := Scalar.select v106_r0 c3_i32_111_r0 v105_r0
  let c0_i32_116_r0 : BitVec 32 := 0#32
  let v113_r0 : BitVec 32 := Scalar.addi v107_r0 c0_i32_116_r0
  let v180_r0 : BitVec 1 := Scalar.cmpi .ne v103_r0 v113_r0
  let c0_i32_62_r0 : BitVec 32 := 0#32
  let c1_i32_63_r0 : BitVec 32 := 1#32
  let arg7_r0 : BitVec 32 := Scf.iv c0_i32_62_r0 c1_i32_63_r0 k0_t1
  let c0_i32_105_r0 : BitVec 32 := 0#32
  let v100_r0 : BitVec 1 := Scalar.cmpi .eq arg7_r0 c0_i32_105_r0
  let v181_r0 : BitVec 1 := Scalar.ori v180_r0 v100_r0
  let c0_i32_159_r0 : BitVec 32 := 0#32
  let v182_r0 : BitVec 1 := Scalar.cmpi .sge arg7_r0 c0_i32_159_r0
  let v183_r0 : BitVec 1 := Scalar.andi v181_r0 v182_r0
  let v184_r0 : BitVec 32 := Scalar.extui v183_r0
  let c0_i32_160_r0 : BitVec 32 := 0#32
  let v185_r0 : BitVec 1 := Scalar.cmpi .ne v184_r0 c0_i32_160_r0
  v185_r0

def k0_off20 (arg14_r0 : BitVec 32) : Fin 3 → Nat :=
  let c2_i32_210_r0 : BitVec 32 := 2#32
  let v284_r0 : BitVec 32 := Scalar.remui arg14_r0 c2_i32_210_r0
  let c0_i32_211_r0 : BitVec 32 := 0#32
  let c0_i32_212_r0 : BitVec 32 := 0#32
  ![v284_r0.toNat, 0, 0]
def k0_off21 (arg19_r0 : BitVec 32) : Fin 2 → Nat :=
  let c2048_i32_r0 : BitVec 32 := 2048#32
  let c0_i32_107_r0 : BitVec 32 := 0#32
  let v103_r0 : BitVec 32 := Scalar.addi arg19_r0 c0_i32_107_r0
  let v283_r0 : BitVec 32 := Scalar.muli c2048_i32_r0 v103_r0
  let c0_i32_213_r0 : BitVec 32 := 0#32
  ![v283_r0.toNat, 0]
def k0_off22 (arg9_r0 : BitVec 32) : Fin 3 → Nat :=
  let c2_i32_163_r0 : BitVec 32 := 2#32
  let v192_r0 : BitVec 32 := Scalar.remui arg9_r0 c2_i32_163_r0
  let v283_r0 : Index := Scalar.indexCast v192_r0
  let c0_r0 : Index := 0#32
  let c0_210_r0 : Index := 0#32
  ![v283_r0.toNat, 0, 0]
def k0_cond8 (arg19_r0 : BitVec 32) : BitVec 1 :=
  let c0_i32_107_r0 : BitVec 32 := 0#32
  let v103_r0 : BitVec 32 := Scalar.addi arg19_r0 c0_i32_107_r0
  let c0_i32_167_r0 : BitVec 32 := 0#32
  let v196_r0 : BitVec 1 := Scalar.cmpi .eq v103_r0 c0_i32_167_r0
  let v197_r0 : BitVec 32 := Scalar.extui v196_r0
  let c0_i32_168_r0 : BitVec 32 := 0#32
  let v198_r0 : BitVec 1 := Scalar.cmpi .ne v197_r0 c0_i32_168_r0
  v198_r0

def k0_off23 (arg12_r0 : BitVec 32) : Fin 3 → Nat :=
  let c2_i32_164_r0 : BitVec 32 := 2#32
  let v193_r0 : BitVec 32 := Scalar.remui arg12_r0 c2_i32_164_r0
  let v304_r0 : Index := Scalar.indexCast v193_r0
  let c0_217_r0 : Index := 0#32
  let c0_218_r0 : Index := 0#32
  ![v304_r0.toNat, 0, 0]
def k0_off24 (arg14_r0 : BitVec 32) : Fin 3 → Nat :=
  let c2_i32_165_r0 : BitVec 32 := 2#32
  let v194_r0 : BitVec 32 := Scalar.remui arg14_r0 c2_i32_165_r0
  let v312_r0 : Index := Scalar.indexCast v194_r0
  let c0_221_r0 : Index := 0#32
  let c0_222_r0 : Index := 0#32
  ![v312_r0.toNat, 0, 0]
def k0_off25 (arg16_r0 : BitVec 32) : Fin 3 → Nat :=
  let c2_i32_166_r0 : BitVec 32 := 2#32
  let v195_r0 : BitVec 32 := Scalar.remui arg16_r0 c2_i32_166_r0
  let v317_r0 : Index := Scalar.indexCast v195_r0
  let c0_224_r0 : Index := 0#32
  let c0_225_r0 : Index := 0#32
  ![v317_r0.toNat, 0, 0]
def k0_off26 (arg16_r0 : BitVec 32) : Fin 3 → Nat :=
  let c2_i32_166_r0 : BitVec 32 := 2#32
  let v195_r0 : BitVec 32 := Scalar.remui arg16_r0 c2_i32_166_r0
  let v283_r0 : Index := Scalar.indexCast v195_r0
  let c0_r0 : Index := 0#32
  let c0_210_r0 : Index := 0#32
  ![v283_r0.toNat, 0, 0]
def k0_cond9 (arg19_r0 : BitVec 32) : BitVec 1 :=
  let c0_i32_107_r0 : BitVec 32 := 0#32
  let v103_r0 : BitVec 32 := Scalar.addi arg19_r0 c0_i32_107_r0
  let c0_i32_169_r0 : BitVec 32 := 0#32
  let v199_r0 : BitVec 1 := Scalar.cmpi .sgt v103_r0 c0_i32_169_r0
  let c3_i32_170_r0 : BitVec 32 := 3#32
  let v200_r0 : BitVec 1 := Scalar.cmpi .slt v103_r0 c3_i32_170_r0
  let v201_r0 : BitVec 1 := Scalar.andi v199_r0 v200_r0
  let v202_r0 : BitVec 32 := Scalar.extui v201_r0
  let c0_i32_171_r0 : BitVec 32 := 0#32
  let v203_r0 : BitVec 1 := Scalar.cmpi .ne v202_r0 c0_i32_171_r0
  v203_r0

def k0_off27 (arg12_r0 : BitVec 32) : Fin 3 → Nat :=
  let c2_i32_164_r0 : BitVec 32 := 2#32
  let v193_r0 : BitVec 32 := Scalar.remui arg12_r0 c2_i32_164_r0
  let v287_r0 : Index := Scalar.indexCast v193_r0
  let c0_213_r0 : Index := 0#32
  let c0_214_r0 : Index := 0#32
  ![v287_r0.toNat, 0, 0]
def k0_off28 (arg14_r0 : BitVec 32) : Fin 3 → Nat :=
  let c2_i32_165_r0 : BitVec 32 := 2#32
  let v194_r0 : BitVec 32 := Scalar.remui arg14_r0 c2_i32_165_r0
  let v295_r0 : Index := Scalar.indexCast v194_r0
  let c0_216_r0 : Index := 0#32
  let c0_217_r0 : Index := 0#32
  ![v295_r0.toNat, 0, 0]
def k0_off29 (arg16_r0 : BitVec 32) : Fin 3 → Nat :=
  let c2_i32_166_r0 : BitVec 32 := 2#32
  let v195_r0 : BitVec 32 := Scalar.remui arg16_r0 c2_i32_166_r0
  let v283_r0 : Index := Scalar.indexCast v195_r0
  let c0_r0 : Index := 0#32
  let c0_210_r0 : Index := 0#32
  ![v283_r0.toNat, 0, 0]
def k0_cond10 (arg19_r0 : BitVec 32) : BitVec 1 :=
  let c0_i32_107_r0 : BitVec 32 := 0#32
  let v103_r0 : BitVec 32 := Scalar.addi arg19_r0 c0_i32_107_r0
  let c0_i32_172_r0 : BitVec 32 := 0#32
  let v204_r0 : BitVec 1 := Scalar.cmpi .sgt v103_r0 c0_i32_172_r0
  let c3_i32_173_r0 : BitVec 32 := 3#32
  let v205_r0 : BitVec 1 := Scalar.cmpi .eq v103_r0 c3_i32_173_r0
  let v206_r0 : BitVec 1 := Scalar.andi v204_r0 v205_r0
  let v207_r0 : BitVec 32 := Scalar.extui v206_r0
  let c0_i32_174_r0 : BitVec 32 := 0#32
  let v208_r0 : BitVec 1 := Scalar.cmpi .ne v207_r0 c0_i32_174_r0
  v208_r0

def k0_off30 (arg12_r0 : BitVec 32) : Fin 3 → Nat :=
  let c2_i32_164_r0 : BitVec 32 := 2#32
  let v193_r0 : BitVec 32 := Scalar.remui arg12_r0 c2_i32_164_r0
  let v287_r0 : Index := Scalar.indexCast v193_r0
  let c0_213_r0 : Index := 0#32
  let c0_214_r0 : Index := 0#32
  ![v287_r0.toNat, 0, 0]
def k0_off31 (arg14_r0 : BitVec 32) : Fin 3 → Nat :=
  let c2_i32_165_r0 : BitVec 32 := 2#32
  let v194_r0 : BitVec 32 := Scalar.remui arg14_r0 c2_i32_165_r0
  let v295_r0 : Index := Scalar.indexCast v194_r0
  let c0_216_r0 : Index := 0#32
  let c0_217_r0 : Index := 0#32
  ![v295_r0.toNat, 0, 0]
def k0_off32 (arg16_r0 : BitVec 32) : Fin 1 → Nat :=
  let c2_i32_210_r0 : BitVec 32 := 2#32
  let v283_r0 : BitVec 32 := Scalar.remui arg16_r0 c2_i32_210_r0
  ![v283_r0.toNat]
def k0_cond14 (k0_t1 : Fin k0_t1_loop.trips) (arg18_r0 : BitVec 32) (arg19_r0 : BitVec 32) : BitVec 1 :=
  let c0_i32_106_r0 : BitVec 32 := 0#32
  let v102_r0 : BitVec 32 := Scalar.addi arg18_r0 c0_i32_106_r0
  let true_118_r0 : BitVec 1 := 1#1
  let c1_i32_117_r0 : BitVec 32 := 1#32
  let v114_r0 : BitVec 32 := Scalar.addi arg19_r0 c1_i32_117_r0
  let v115_r0 : BitVec 32 := Scalar.select true_118_r0 v114_r0 arg19_r0
  let c4_i32_119_r0 : BitVec 32 := 4#32
  let v116_r0 : BitVec 1 := Scalar.cmpi .eq v115_r0 c4_i32_119_r0
  let c1_i32_121_r0 : BitVec 32 := 1#32
  let v118_r0 : BitVec 32 := Scalar.addi arg18_r0 c1_i32_121_r0
  let v119_r0 : BitVec 32 := Scalar.select v116_r0 v118_r0 arg18_r0
  let c16_i32_122_r0 : BitVec 32 := 16#32
  let v120_r0 : BitVec 1 := Scalar.cmpi .eq v119_r0 c16_i32_122_r0
  let c0_i32_123_r0 : BitVec 32 := 0#32
  let v121_r0 : BitVec 32 := Scalar.select v120_r0 c0_i32_123_r0 v119_r0
  let c0_i32_124_r0 : BitVec 32 := 0#32
  let v122_r0 : BitVec 32 := Scalar.addi v121_r0 c0_i32_124_r0
  let v224_r0 : BitVec 1 := Scalar.cmpi .ne v102_r0 v122_r0
  let c0_i32_62_r0 : BitVec 32 := 0#32
  let c1_i32_63_r0 : BitVec 32 := 1#32
  let arg7_r0 : BitVec 32 := Scf.iv c0_i32_62_r0 c1_i32_63_r0 k0_t1
  let c63_i32_r0 : BitVec 32 := 63#32
  let v101_r0 : BitVec 1 := Scalar.cmpi .eq arg7_r0 c63_i32_r0
  let v225_r0 : BitVec 1 := Scalar.ori v224_r0 v101_r0
  let v226_r0 : BitVec 32 := Scalar.extui v225_r0
  let c0_i32_180_r0 : BitVec 32 := 0#32
  let v227_r0 : BitVec 1 := Scalar.cmpi .ne v226_r0 c0_i32_180_r0
  v227_r0

def k0_off33 (arg18_r0 : BitVec 32) : Fin 2 → Nat :=
  let c512_i32_211_r0 : BitVec 32 := 512#32
  let c0_i32_106_r0 : BitVec 32 := 0#32
  let v102_r0 : BitVec 32 := Scalar.addi arg18_r0 c0_i32_106_r0
  let v284_r0 : BitVec 32 := Scalar.muli c512_i32_211_r0 v102_r0
  let c0_i32_212_r0 : BitVec 32 := 0#32
  ![v284_r0.toNat, 0]
def k0_off34 (arg16_r0 : BitVec 32) : Fin 3 → Nat :=
  let c2_i32_210_r0 : BitVec 32 := 2#32
  let v283_r0 : BitVec 32 := Scalar.remui arg16_r0 c2_i32_210_r0
  let c0_i32_213_r0 : BitVec 32 := 0#32
  let c0_i32_214_r0 : BitVec 32 := 0#32
  ![v283_r0.toNat, 0, 0]
def k0_off35 (arg17_r0 : BitVec 32) : Fin 1 → Nat :=
  let c2_i32_210_r0 : BitVec 32 := 2#32
  let v283_r0 : BitVec 32 := Scalar.remui arg17_r0 c2_i32_210_r0
  ![v283_r0.toNat]
def k0_cond18 (k0_t1 : Fin k0_t1_loop.trips) (arg18_r0 : BitVec 32) (arg19_r0 : BitVec 32) : BitVec 1 :=
  let c0_i32_106_r0 : BitVec 32 := 0#32
  let v102_r0 : BitVec 32 := Scalar.addi arg18_r0 c0_i32_106_r0
  let true_109_r0 : BitVec 1 := 1#1
  let c1_i32_108_r0 : BitVec 32 := 1#32
  let v104_r0 : BitVec 32 := Scalar.subi arg19_r0 c1_i32_108_r0
  let v105_r0 : BitVec 32 := Scalar.select true_109_r0 v104_r0 arg19_r0
  let c_m1_i32_110_r0 : BitVec 32 := 4294967295#32
  let v106_r0 : BitVec 1 := Scalar.cmpi .eq v105_r0 c_m1_i32_110_r0
  let c1_i32_112_r0 : BitVec 32 := 1#32
  let v108_r0 : BitVec 32 := Scalar.subi arg18_r0 c1_i32_112_r0
  let v109_r0 : BitVec 32 := Scalar.select v106_r0 v108_r0 arg18_r0
  let c_m1_i32_113_r0 : BitVec 32 := 4294967295#32
  let v110_r0 : BitVec 1 := Scalar.cmpi .eq v109_r0 c_m1_i32_113_r0
  let c15_i32_114_r0 : BitVec 32 := 15#32
  let v111_r0 : BitVec 32 := Scalar.select v110_r0 c15_i32_114_r0 v109_r0
  let c0_i32_115_r0 : BitVec 32 := 0#32
  let v112_r0 : BitVec 32 := Scalar.addi v111_r0 c0_i32_115_r0
  let v249_r0 : BitVec 1 := Scalar.cmpi .ne v102_r0 v112_r0
  let c0_i32_62_r0 : BitVec 32 := 0#32
  let c1_i32_63_r0 : BitVec 32 := 1#32
  let arg7_r0 : BitVec 32 := Scf.iv c0_i32_62_r0 c1_i32_63_r0 k0_t1
  let c0_i32_105_r0 : BitVec 32 := 0#32
  let v100_r0 : BitVec 1 := Scalar.cmpi .eq arg7_r0 c0_i32_105_r0
  let true_192_r0 : BitVec 1 := 1#1
  let v250_r0 : BitVec 1 := Scalar.xori v100_r0 true_192_r0
  let v251_r0 : BitVec 1 := Scalar.andi v249_r0 v250_r0
  let v252_r0 : BitVec 32 := Scalar.extui v251_r0
  let c0_i32_193_r0 : BitVec 32 := 0#32
  let v253_r0 : BitVec 1 := Scalar.cmpi .ne v252_r0 c0_i32_193_r0
  v253_r0

def k0_off36 (arg18_r0 : BitVec 32) (arg19_r0 : BitVec 32) : Fin 2 → Nat :=
  let c512_i32_211_r0 : BitVec 32 := 512#32
  let true_109_r0 : BitVec 1 := 1#1
  let c1_i32_108_r0 : BitVec 32 := 1#32
  let v104_r0 : BitVec 32 := Scalar.subi arg19_r0 c1_i32_108_r0
  let v105_r0 : BitVec 32 := Scalar.select true_109_r0 v104_r0 arg19_r0
  let c_m1_i32_110_r0 : BitVec 32 := 4294967295#32
  let v106_r0 : BitVec 1 := Scalar.cmpi .eq v105_r0 c_m1_i32_110_r0
  let c1_i32_112_r0 : BitVec 32 := 1#32
  let v108_r0 : BitVec 32 := Scalar.subi arg18_r0 c1_i32_112_r0
  let v109_r0 : BitVec 32 := Scalar.select v106_r0 v108_r0 arg18_r0
  let c_m1_i32_113_r0 : BitVec 32 := 4294967295#32
  let v110_r0 : BitVec 1 := Scalar.cmpi .eq v109_r0 c_m1_i32_113_r0
  let c15_i32_114_r0 : BitVec 32 := 15#32
  let v111_r0 : BitVec 32 := Scalar.select v110_r0 c15_i32_114_r0 v109_r0
  let c0_i32_115_r0 : BitVec 32 := 0#32
  let v112_r0 : BitVec 32 := Scalar.addi v111_r0 c0_i32_115_r0
  let v284_r0 : BitVec 32 := Scalar.muli c512_i32_211_r0 v112_r0
  let c0_i32_212_r0 : BitVec 32 := 0#32
  ![v284_r0.toNat, 0]
def k0_off37 (arg17_r0 : BitVec 32) : Fin 3 → Nat :=
  let c2_i32_210_r0 : BitVec 32 := 2#32
  let v283_r0 : BitVec 32 := Scalar.remui arg17_r0 c2_i32_210_r0
  let c0_i32_213_r0 : BitVec 32 := 0#32
  let c0_i32_214_r0 : BitVec 32 := 0#32
  ![v283_r0.toNat, 0, 0]

def k0_chk1_0 (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) : Prop :=
  (∀ (k0_h1 : k0_cond1 k0_t1 arg18_r0 arg19_r0 = 1#1), ∀ a, (k0_off4 arg8_r0) a + S1.size a ≤ S2.size a) ∧
  (∀ (k0_h1 : k0_cond1 k0_t1 arg18_r0 arg19_r0 = 1#1), ∀ a, (k0_off5 arg8_r0) a + S1x512x2048.size a ≤ S2x512x2048.size a) ∧
  (∀ (k0_h1 : k0_cond1 k0_t1 arg18_r0 arg19_r0 = 1#1), ∀ a, (k0_off6 arg18_r0 arg19_r0) a + S512x2048.size a ≤ S8192x2048.size a) ∧
  (∀ (k0_h2 : k0_cond2 k0_t1 arg19_r0 = 1#1), ∀ a, (k0_off7 arg11_r0) a + S1.size a ≤ S2.size a) ∧
  (∀ (k0_h2 : k0_cond2 k0_t1 arg19_r0 = 1#1), ∀ a, (k0_off8 arg11_r0) a + S1x2048x2048.size a ≤ S2x2048x2048.size a) ∧
  (∀ (k0_h2 : k0_cond2 k0_t1 arg19_r0 = 1#1), ∀ a, (k0_off9 arg19_r0) a + S2048x2048.size a ≤ S2048x8192.size a) ∧
  (∀ (k0_h2 : k0_cond2 k0_t1 arg19_r0 = 1#1), ∀ (hinb : ∀ a, (k0_off9 arg19_r0) a + S2048x2048.size a ≤ S2048x8192.size a), (Rect.unit (s := S2048x8192) (k0_off9 arg19_r0) S2048x2048.size hinb).WholeWords (EltTy.packing .bf16)) ∧
  (∀ (k0_h2 : k0_cond2 k0_t1 arg19_r0 = 1#1), ∀ (hinb : ∀ a, (k0_off8 arg11_r0) a + S1x2048x2048.size a ≤ S2x2048x2048.size a), (Rect.unit (s := S2x2048x2048) (k0_off8 arg11_r0) S1x2048x2048.size hinb).WholeWords (EltTy.packing .bf16)) ∧
  (∀ (k0_h3 : k0_cond3 k0_t1 arg19_r0 = 1#1), ∀ a, (k0_off10 arg13_r0) a + S1.size a ≤ S2.size a) ∧
  (∀ (k0_h3 : k0_cond3 k0_t1 arg19_r0 = 1#1), ∀ a, (k0_off11 arg13_r0) a + S1x2048x2048.size a ≤ S2x2048x2048.size a) ∧
  (∀ (k0_h3 : k0_cond3 k0_t1 arg19_r0 = 1#1), ∀ a, (k0_off12 arg19_r0) a + S2048x2048.size a ≤ S8192x2048.size a) ∧
  (∀ (k0_h3 : k0_cond3 k0_t1 arg19_r0 = 1#1), ∀ (hinb : ∀ a, (k0_off12 arg19_r0) a + S2048x2048.size a ≤ S8192x2048.size a), (Rect.unit (s := S8192x2048) (k0_off12 arg19_r0) S2048x2048.size hinb).WholeWords (EltTy.packing .bf16)) ∧
  (∀ (k0_h3 : k0_cond3 k0_t1 arg19_r0 = 1#1), ∀ (hinb : ∀ a, (k0_off11 arg13_r0) a + S1x2048x2048.size a ≤ S2x2048x2048.size a), (Rect.unit (s := S2x2048x2048) (k0_off11 arg13_r0) S1x2048x2048.size hinb).WholeWords (EltTy.packing .bf16)) ∧
  (∀ (k0_h4 : k0_cond4 k0_t1 arg18_r0 arg19_r0 = 1#1), ∀ a, (k0_off13 arg9_r0) a + S1.size a ≤ S2.size a) ∧
  (∀ (k0_h4 : k0_cond4 k0_t1 arg18_r0 arg19_r0 = 1#1), ∀ a, (k0_off14 arg9_r0) a + S1x512x2048.size a ≤ S2x512x2048.size a) ∧
  (∀ (k0_h4 : k0_cond4 k0_t1 arg18_r0 arg19_r0 = 1#1), ∀ a, (k0_off15 arg18_r0) a + S512x2048.size a ≤ S8192x2048.size a) ∧
  (∀ (k0_h5 : k0_cond5 k0_t1 arg19_r0 = 1#1), ∀ a, (k0_off16 arg12_r0) a + S1.size a ≤ S2.size a) ∧
  (∀ (k0_h5 : k0_cond5 k0_t1 arg19_r0 = 1#1), ∀ a, (k0_off17 arg12_r0) a + S1x2048x2048.size a ≤ S2x2048x2048.size a) ∧
  (∀ (k0_h5 : k0_cond5 k0_t1 arg19_r0 = 1#1), ∀ a, (k0_off18 arg19_r0) a + S2048x2048.size a ≤ S2048x8192.size a) ∧
  (∀ (k0_h5 : k0_cond5 k0_t1 arg19_r0 = 1#1), ∀ (hinb : ∀ a, (k0_off18 arg19_r0) a + S2048x2048.size a ≤ S2048x8192.size a), (Rect.unit (s := S2048x8192) (k0_off18 arg19_r0) S2048x2048.size hinb).WholeWords (EltTy.packing .bf16)) ∧
  (∀ (k0_h5 : k0_cond5 k0_t1 arg19_r0 = 1#1), ∀ (hinb : ∀ a, (k0_off17 arg12_r0) a + S1x2048x2048.size a ≤ S2x2048x2048.size a), (Rect.unit (s := S2x2048x2048) (k0_off17 arg12_r0) S1x2048x2048.size hinb).WholeWords (EltTy.packing .bf16)) ∧
  (∀ (k0_h6 : k0_cond6 k0_t1 arg19_r0 = 1#1), ∀ a, (k0_off19 arg14_r0) a + S1.size a ≤ S2.size a) ∧
  (∀ (k0_h6 : k0_cond6 k0_t1 arg19_r0 = 1#1), ∀ a, (k0_off20 arg14_r0) a + S1x2048x2048.size a ≤ S2x2048x2048.size a) ∧
  (∀ (k0_h6 : k0_cond6 k0_t1 arg19_r0 = 1#1), ∀ a, (k0_off21 arg19_r0) a + S2048x2048.size a ≤ S8192x2048.size a) ∧
  (∀ (k0_h6 : k0_cond6 k0_t1 arg19_r0 = 1#1), ∀ (hinb : ∀ a, (k0_off21 arg19_r0) a + S2048x2048.size a ≤ S8192x2048.size a), (Rect.unit (s := S8192x2048) (k0_off21 arg19_r0) S2048x2048.size hinb).WholeWords (EltTy.packing .bf16)) ∧
  (∀ (k0_h6 : k0_cond6 k0_t1 arg19_r0 = 1#1), ∀ (hinb : ∀ a, (k0_off20 arg14_r0) a + S1x2048x2048.size a ≤ S2x2048x2048.size a), (Rect.unit (s := S2x2048x2048) (k0_off20 arg14_r0) S1x2048x2048.size hinb).WholeWords (EltTy.packing .bf16)) ∧
  (∀ (k0_h8 : k0_cond8 arg19_r0 = 1#1), ∀ a, (k0_off22 arg9_r0) a + S1x512x2048.size a ≤ S2x512x2048.size a) ∧
  (∀ (k0_h8 : k0_cond8 arg19_r0 = 1#1), ∀ a, (k0_off23 arg12_r0) a + S1x2048x2048.size a ≤ S2x2048x2048.size a) ∧
  (∀ (k0_h8 : k0_cond8 arg19_r0 = 1#1), ∀ a, (k0_off24 arg14_r0) a + S1x2048x2048.size a ≤ S2x2048x2048.size a) ∧
  (∀ (k0_h8 : k0_cond8 arg19_r0 = 1#1), ∀ a, (k0_off25 arg16_r0) a + S1x512x2048.size a ≤ S2x512x2048.size a) ∧
  (∀ (k0_h9 : k0_cond9 arg19_r0 = 1#1), ∀ a, (k0_off26 arg16_r0) a + S1x512x2048.size a ≤ S2x512x2048.size a) ∧
  (∀ (k0_h9 : k0_cond9 arg19_r0 = 1#1), ∀ a, (k0_off27 arg12_r0) a + S1x2048x2048.size a ≤ S2x2048x2048.size a)
def k0_chk1_1 (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) : Prop :=
  (∀ (k0_h9 : k0_cond9 arg19_r0 = 1#1), ∀ a, (k0_off28 arg14_r0) a + S1x2048x2048.size a ≤ S2x2048x2048.size a) ∧
  (∀ (k0_h10 : k0_cond10 arg19_r0 = 1#1), ∀ a, (k0_off29 arg16_r0) a + S1x512x2048.size a ≤ S2x512x2048.size a) ∧
  (∀ (k0_h10 : k0_cond10 arg19_r0 = 1#1), ∀ a, (k0_off30 arg12_r0) a + S1x2048x2048.size a ≤ S2x2048x2048.size a) ∧
  (∀ (k0_h10 : k0_cond10 arg19_r0 = 1#1), ∀ a, (k0_off31 arg14_r0) a + S1x2048x2048.size a ≤ S2x2048x2048.size a) ∧
  (∀ (k0_h14 : k0_cond14 k0_t1 arg18_r0 arg19_r0 = 1#1), ∀ a, (k0_off32 arg16_r0) a + S1.size a ≤ S2.size a) ∧
  (∀ (k0_h14 : k0_cond14 k0_t1 arg18_r0 arg19_r0 = 1#1), ∀ a, (k0_off33 arg18_r0) a + S512x2048.size a ≤ S8192x2048.size a) ∧
  (∀ (k0_h14 : k0_cond14 k0_t1 arg18_r0 arg19_r0 = 1#1), ∀ a, (k0_off34 arg16_r0) a + S1x512x2048.size a ≤ S2x512x2048.size a) ∧
  (∀ (k0_h18 : k0_cond18 k0_t1 arg18_r0 arg19_r0 = 1#1), ∀ a, (k0_off35 arg17_r0) a + S1.size a ≤ S2.size a) ∧
  (∀ (k0_h18 : k0_cond18 k0_t1 arg18_r0 arg19_r0 = 1#1), ∀ a, (k0_off36 arg18_r0 arg19_r0) a + S512x2048.size a ≤ S8192x2048.size a) ∧
  (∀ (k0_h18 : k0_cond18 k0_t1 arg18_r0 arg19_r0 = 1#1), ∀ a, (k0_off37 arg17_r0) a + S1x512x2048.size a ≤ S2x512x2048.size a)
def k0_chk1 (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) : Prop :=
  k0_chk1_0 k0_t1 arg8_r0 arg9_r0 arg11_r0 arg12_r0 arg13_r0 arg14_r0 arg16_r0 arg17_r0 arg18_r0 arg19_r0 ∧
  k0_chk1_1 k0_t1 arg8_r0 arg9_r0 arg11_r0 arg12_r0 arg13_r0 arg14_r0 arg16_r0 arg17_r0 arg18_r0 arg19_r0
theorem k0_off4_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h1 : k0_cond1 k0_t1 arg18_r0 arg19_r0 = 1#1), ∀ a, (k0_off4 arg8_r0) a + S1.size a ≤ S2.size a := fun k0_t1 arg8_r0 arg9_r0 arg11_r0 arg12_r0 arg13_r0 arg14_r0 arg16_r0 arg17_r0 arg18_r0 arg19_r0 k0_hw1 k0_h1 => k0_hw1.1.1 k0_h1
theorem k0_off5_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h1 : k0_cond1 k0_t1 arg18_r0 arg19_r0 = 1#1), ∀ a, (k0_off5 arg8_r0) a + S1x512x2048.size a ≤ S2x512x2048.size a := fun k0_t1 arg8_r0 arg9_r0 arg11_r0 arg12_r0 arg13_r0 arg14_r0 arg16_r0 arg17_r0 arg18_r0 arg19_r0 k0_hw1 k0_h1 => k0_hw1.1.2.1 k0_h1
theorem k0_off6_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h1 : k0_cond1 k0_t1 arg18_r0 arg19_r0 = 1#1), ∀ a, (k0_off6 arg18_r0 arg19_r0) a + S512x2048.size a ≤ S8192x2048.size a := fun k0_t1 arg8_r0 arg9_r0 arg11_r0 arg12_r0 arg13_r0 arg14_r0 arg16_r0 arg17_r0 arg18_r0 arg19_r0 k0_hw1 k0_h1 => k0_hw1.1.2.2.1 k0_h1
theorem k0_off7_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h2 : k0_cond2 k0_t1 arg19_r0 = 1#1), ∀ a, (k0_off7 arg11_r0) a + S1.size a ≤ S2.size a := fun k0_t1 arg8_r0 arg9_r0 arg11_r0 arg12_r0 arg13_r0 arg14_r0 arg16_r0 arg17_r0 arg18_r0 arg19_r0 k0_hw1 k0_h2 => k0_hw1.1.2.2.2.1 k0_h2
theorem k0_off8_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h2 : k0_cond2 k0_t1 arg19_r0 = 1#1), ∀ a, (k0_off8 arg11_r0) a + S1x2048x2048.size a ≤ S2x2048x2048.size a := fun k0_t1 arg8_r0 arg9_r0 arg11_r0 arg12_r0 arg13_r0 arg14_r0 arg16_r0 arg17_r0 arg18_r0 arg19_r0 k0_hw1 k0_h2 => k0_hw1.1.2.2.2.2.1 k0_h2
theorem k0_off9_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h2 : k0_cond2 k0_t1 arg19_r0 = 1#1), ∀ a, (k0_off9 arg19_r0) a + S2048x2048.size a ≤ S2048x8192.size a := fun k0_t1 arg8_r0 arg9_r0 arg11_r0 arg12_r0 arg13_r0 arg14_r0 arg16_r0 arg17_r0 arg18_r0 arg19_r0 k0_hw1 k0_h2 => k0_hw1.1.2.2.2.2.2.1 k0_h2
theorem k0_off9_wordsbf16 : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h2 : k0_cond2 k0_t1 arg19_r0 = 1#1), (Rect.unit (s := S2048x8192) (k0_off9 arg19_r0) S2048x2048.size (k0_off9_inb k0_t1 arg8_r0 arg9_r0 arg11_r0 arg12_r0 arg13_r0 arg14_r0 arg16_r0 arg17_r0 arg18_r0 arg19_r0 k0_hw1 k0_h2)).WholeWords (EltTy.packing .bf16) := fun k0_t1 arg8_r0 arg9_r0 arg11_r0 arg12_r0 arg13_r0 arg14_r0 arg16_r0 arg17_r0 arg18_r0 arg19_r0 k0_hw1 k0_h2 => k0_hw1.1.2.2.2.2.2.2.1 k0_h2 (k0_off9_inb k0_t1 arg8_r0 arg9_r0 arg11_r0 arg12_r0 arg13_r0 arg14_r0 arg16_r0 arg17_r0 arg18_r0 arg19_r0 k0_hw1 k0_h2)
theorem k0_off8_wordsbf16 : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h2 : k0_cond2 k0_t1 arg19_r0 = 1#1), (Rect.unit (s := S2x2048x2048) (k0_off8 arg11_r0) S1x2048x2048.size (k0_off8_inb k0_t1 arg8_r0 arg9_r0 arg11_r0 arg12_r0 arg13_r0 arg14_r0 arg16_r0 arg17_r0 arg18_r0 arg19_r0 k0_hw1 k0_h2)).WholeWords (EltTy.packing .bf16) := fun k0_t1 arg8_r0 arg9_r0 arg11_r0 arg12_r0 arg13_r0 arg14_r0 arg16_r0 arg17_r0 arg18_r0 arg19_r0 k0_hw1 k0_h2 => k0_hw1.1.2.2.2.2.2.2.2.1 k0_h2 (k0_off8_inb k0_t1 arg8_r0 arg9_r0 arg11_r0 arg12_r0 arg13_r0 arg14_r0 arg16_r0 arg17_r0 arg18_r0 arg19_r0 k0_hw1 k0_h2)
theorem k0_off10_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h3 : k0_cond3 k0_t1 arg19_r0 = 1#1), ∀ a, (k0_off10 arg13_r0) a + S1.size a ≤ S2.size a := fun k0_t1 arg8_r0 arg9_r0 arg11_r0 arg12_r0 arg13_r0 arg14_r0 arg16_r0 arg17_r0 arg18_r0 arg19_r0 k0_hw1 k0_h3 => k0_hw1.1.2.2.2.2.2.2.2.2.1 k0_h3
theorem k0_off11_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h3 : k0_cond3 k0_t1 arg19_r0 = 1#1), ∀ a, (k0_off11 arg13_r0) a + S1x2048x2048.size a ≤ S2x2048x2048.size a := fun k0_t1 arg8_r0 arg9_r0 arg11_r0 arg12_r0 arg13_r0 arg14_r0 arg16_r0 arg17_r0 arg18_r0 arg19_r0 k0_hw1 k0_h3 => k0_hw1.1.2.2.2.2.2.2.2.2.2.1 k0_h3
theorem k0_off12_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h3 : k0_cond3 k0_t1 arg19_r0 = 1#1), ∀ a, (k0_off12 arg19_r0) a + S2048x2048.size a ≤ S8192x2048.size a := fun k0_t1 arg8_r0 arg9_r0 arg11_r0 arg12_r0 arg13_r0 arg14_r0 arg16_r0 arg17_r0 arg18_r0 arg19_r0 k0_hw1 k0_h3 => k0_hw1.1.2.2.2.2.2.2.2.2.2.2.1 k0_h3
theorem k0_off12_wordsbf16 : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h3 : k0_cond3 k0_t1 arg19_r0 = 1#1), (Rect.unit (s := S8192x2048) (k0_off12 arg19_r0) S2048x2048.size (k0_off12_inb k0_t1 arg8_r0 arg9_r0 arg11_r0 arg12_r0 arg13_r0 arg14_r0 arg16_r0 arg17_r0 arg18_r0 arg19_r0 k0_hw1 k0_h3)).WholeWords (EltTy.packing .bf16) := fun k0_t1 arg8_r0 arg9_r0 arg11_r0 arg12_r0 arg13_r0 arg14_r0 arg16_r0 arg17_r0 arg18_r0 arg19_r0 k0_hw1 k0_h3 => k0_hw1.1.2.2.2.2.2.2.2.2.2.2.2.1 k0_h3 (k0_off12_inb k0_t1 arg8_r0 arg9_r0 arg11_r0 arg12_r0 arg13_r0 arg14_r0 arg16_r0 arg17_r0 arg18_r0 arg19_r0 k0_hw1 k0_h3)
theorem k0_off11_wordsbf16 : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h3 : k0_cond3 k0_t1 arg19_r0 = 1#1), (Rect.unit (s := S2x2048x2048) (k0_off11 arg13_r0) S1x2048x2048.size (k0_off11_inb k0_t1 arg8_r0 arg9_r0 arg11_r0 arg12_r0 arg13_r0 arg14_r0 arg16_r0 arg17_r0 arg18_r0 arg19_r0 k0_hw1 k0_h3)).WholeWords (EltTy.packing .bf16) := fun k0_t1 arg8_r0 arg9_r0 arg11_r0 arg12_r0 arg13_r0 arg14_r0 arg16_r0 arg17_r0 arg18_r0 arg19_r0 k0_hw1 k0_h3 => k0_hw1.1.2.2.2.2.2.2.2.2.2.2.2.2.1 k0_h3 (k0_off11_inb k0_t1 arg8_r0 arg9_r0 arg11_r0 arg12_r0 arg13_r0 arg14_r0 arg16_r0 arg17_r0 arg18_r0 arg19_r0 k0_hw1 k0_h3)
theorem k0_off13_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h4 : k0_cond4 k0_t1 arg18_r0 arg19_r0 = 1#1), ∀ a, (k0_off13 arg9_r0) a + S1.size a ≤ S2.size a := fun k0_t1 arg8_r0 arg9_r0 arg11_r0 arg12_r0 arg13_r0 arg14_r0 arg16_r0 arg17_r0 arg18_r0 arg19_r0 k0_hw1 k0_h4 => k0_hw1.1.2.2.2.2.2.2.2.2.2.2.2.2.2.1 k0_h4
theorem k0_off14_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h4 : k0_cond4 k0_t1 arg18_r0 arg19_r0 = 1#1), ∀ a, (k0_off14 arg9_r0) a + S1x512x2048.size a ≤ S2x512x2048.size a := fun k0_t1 arg8_r0 arg9_r0 arg11_r0 arg12_r0 arg13_r0 arg14_r0 arg16_r0 arg17_r0 arg18_r0 arg19_r0 k0_hw1 k0_h4 => k0_hw1.1.2.2.2.2.2.2.2.2.2.2.2.2.2.2.1 k0_h4
theorem k0_off15_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h4 : k0_cond4 k0_t1 arg18_r0 arg19_r0 = 1#1), ∀ a, (k0_off15 arg18_r0) a + S512x2048.size a ≤ S8192x2048.size a := fun k0_t1 arg8_r0 arg9_r0 arg11_r0 arg12_r0 arg13_r0 arg14_r0 arg16_r0 arg17_r0 arg18_r0 arg19_r0 k0_hw1 k0_h4 => k0_hw1.1.2.2.2.2.2.2.2.2.2.2.2.2.2.2.2.1 k0_h4
theorem k0_off16_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h5 : k0_cond5 k0_t1 arg19_r0 = 1#1), ∀ a, (k0_off16 arg12_r0) a + S1.size a ≤ S2.size a := fun k0_t1 arg8_r0 arg9_r0 arg11_r0 arg12_r0 arg13_r0 arg14_r0 arg16_r0 arg17_r0 arg18_r0 arg19_r0 k0_hw1 k0_h5 => k0_hw1.1.2.2.2.2.2.2.2.2.2.2.2.2.2.2.2.2.1 k0_h5
theorem k0_off17_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h5 : k0_cond5 k0_t1 arg19_r0 = 1#1), ∀ a, (k0_off17 arg12_r0) a + S1x2048x2048.size a ≤ S2x2048x2048.size a := fun k0_t1 arg8_r0 arg9_r0 arg11_r0 arg12_r0 arg13_r0 arg14_r0 arg16_r0 arg17_r0 arg18_r0 arg19_r0 k0_hw1 k0_h5 => k0_hw1.1.2.2.2.2.2.2.2.2.2.2.2.2.2.2.2.2.2.1 k0_h5
theorem k0_off18_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h5 : k0_cond5 k0_t1 arg19_r0 = 1#1), ∀ a, (k0_off18 arg19_r0) a + S2048x2048.size a ≤ S2048x8192.size a := fun k0_t1 arg8_r0 arg9_r0 arg11_r0 arg12_r0 arg13_r0 arg14_r0 arg16_r0 arg17_r0 arg18_r0 arg19_r0 k0_hw1 k0_h5 => k0_hw1.1.2.2.2.2.2.2.2.2.2.2.2.2.2.2.2.2.2.2.1 k0_h5
theorem k0_off18_wordsbf16 : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h5 : k0_cond5 k0_t1 arg19_r0 = 1#1), (Rect.unit (s := S2048x8192) (k0_off18 arg19_r0) S2048x2048.size (k0_off18_inb k0_t1 arg8_r0 arg9_r0 arg11_r0 arg12_r0 arg13_r0 arg14_r0 arg16_r0 arg17_r0 arg18_r0 arg19_r0 k0_hw1 k0_h5)).WholeWords (EltTy.packing .bf16) := fun k0_t1 arg8_r0 arg9_r0 arg11_r0 arg12_r0 arg13_r0 arg14_r0 arg16_r0 arg17_r0 arg18_r0 arg19_r0 k0_hw1 k0_h5 => k0_hw1.1.2.2.2.2.2.2.2.2.2.2.2.2.2.2.2.2.2.2.2.1 k0_h5 (k0_off18_inb k0_t1 arg8_r0 arg9_r0 arg11_r0 arg12_r0 arg13_r0 arg14_r0 arg16_r0 arg17_r0 arg18_r0 arg19_r0 k0_hw1 k0_h5)
theorem k0_off17_wordsbf16 : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h5 : k0_cond5 k0_t1 arg19_r0 = 1#1), (Rect.unit (s := S2x2048x2048) (k0_off17 arg12_r0) S1x2048x2048.size (k0_off17_inb k0_t1 arg8_r0 arg9_r0 arg11_r0 arg12_r0 arg13_r0 arg14_r0 arg16_r0 arg17_r0 arg18_r0 arg19_r0 k0_hw1 k0_h5)).WholeWords (EltTy.packing .bf16) := fun k0_t1 arg8_r0 arg9_r0 arg11_r0 arg12_r0 arg13_r0 arg14_r0 arg16_r0 arg17_r0 arg18_r0 arg19_r0 k0_hw1 k0_h5 => k0_hw1.1.2.2.2.2.2.2.2.2.2.2.2.2.2.2.2.2.2.2.2.2.1 k0_h5 (k0_off17_inb k0_t1 arg8_r0 arg9_r0 arg11_r0 arg12_r0 arg13_r0 arg14_r0 arg16_r0 arg17_r0 arg18_r0 arg19_r0 k0_hw1 k0_h5)
theorem k0_off19_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h6 : k0_cond6 k0_t1 arg19_r0 = 1#1), ∀ a, (k0_off19 arg14_r0) a + S1.size a ≤ S2.size a := fun k0_t1 arg8_r0 arg9_r0 arg11_r0 arg12_r0 arg13_r0 arg14_r0 arg16_r0 arg17_r0 arg18_r0 arg19_r0 k0_hw1 k0_h6 => k0_hw1.1.2.2.2.2.2.2.2.2.2.2.2.2.2.2.2.2.2.2.2.2.2.1 k0_h6
theorem k0_off20_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h6 : k0_cond6 k0_t1 arg19_r0 = 1#1), ∀ a, (k0_off20 arg14_r0) a + S1x2048x2048.size a ≤ S2x2048x2048.size a := fun k0_t1 arg8_r0 arg9_r0 arg11_r0 arg12_r0 arg13_r0 arg14_r0 arg16_r0 arg17_r0 arg18_r0 arg19_r0 k0_hw1 k0_h6 => k0_hw1.1.2.2.2.2.2.2.2.2.2.2.2.2.2.2.2.2.2.2.2.2.2.2.1 k0_h6
theorem k0_off21_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h6 : k0_cond6 k0_t1 arg19_r0 = 1#1), ∀ a, (k0_off21 arg19_r0) a + S2048x2048.size a ≤ S8192x2048.size a := fun k0_t1 arg8_r0 arg9_r0 arg11_r0 arg12_r0 arg13_r0 arg14_r0 arg16_r0 arg17_r0 arg18_r0 arg19_r0 k0_hw1 k0_h6 => k0_hw1.1.2.2.2.2.2.2.2.2.2.2.2.2.2.2.2.2.2.2.2.2.2.2.2.1 k0_h6
theorem k0_off21_wordsbf16 : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h6 : k0_cond6 k0_t1 arg19_r0 = 1#1), (Rect.unit (s := S8192x2048) (k0_off21 arg19_r0) S2048x2048.size (k0_off21_inb k0_t1 arg8_r0 arg9_r0 arg11_r0 arg12_r0 arg13_r0 arg14_r0 arg16_r0 arg17_r0 arg18_r0 arg19_r0 k0_hw1 k0_h6)).WholeWords (EltTy.packing .bf16) := fun k0_t1 arg8_r0 arg9_r0 arg11_r0 arg12_r0 arg13_r0 arg14_r0 arg16_r0 arg17_r0 arg18_r0 arg19_r0 k0_hw1 k0_h6 => k0_hw1.1.2.2.2.2.2.2.2.2.2.2.2.2.2.2.2.2.2.2.2.2.2.2.2.2.1 k0_h6 (k0_off21_inb k0_t1 arg8_r0 arg9_r0 arg11_r0 arg12_r0 arg13_r0 arg14_r0 arg16_r0 arg17_r0 arg18_r0 arg19_r0 k0_hw1 k0_h6)
theorem k0_off20_wordsbf16 : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h6 : k0_cond6 k0_t1 arg19_r0 = 1#1), (Rect.unit (s := S2x2048x2048) (k0_off20 arg14_r0) S1x2048x2048.size (k0_off20_inb k0_t1 arg8_r0 arg9_r0 arg11_r0 arg12_r0 arg13_r0 arg14_r0 arg16_r0 arg17_r0 arg18_r0 arg19_r0 k0_hw1 k0_h6)).WholeWords (EltTy.packing .bf16) := fun k0_t1 arg8_r0 arg9_r0 arg11_r0 arg12_r0 arg13_r0 arg14_r0 arg16_r0 arg17_r0 arg18_r0 arg19_r0 k0_hw1 k0_h6 => k0_hw1.1.2.2.2.2.2.2.2.2.2.2.2.2.2.2.2.2.2.2.2.2.2.2.2.2.2.1 k0_h6 (k0_off20_inb k0_t1 arg8_r0 arg9_r0 arg11_r0 arg12_r0 arg13_r0 arg14_r0 arg16_r0 arg17_r0 arg18_r0 arg19_r0 k0_hw1 k0_h6)
theorem k0_off22_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h8 : k0_cond8 arg19_r0 = 1#1), ∀ a, (k0_off22 arg9_r0) a + S1x512x2048.size a ≤ S2x512x2048.size a := fun k0_t1 arg8_r0 arg9_r0 arg11_r0 arg12_r0 arg13_r0 arg14_r0 arg16_r0 arg17_r0 arg18_r0 arg19_r0 k0_hw1 k0_h8 => k0_hw1.1.2.2.2.2.2.2.2.2.2.2.2.2.2.2.2.2.2.2.2.2.2.2.2.2.2.2.1 k0_h8
theorem k0_off23_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h8 : k0_cond8 arg19_r0 = 1#1), ∀ a, (k0_off23 arg12_r0) a + S1x2048x2048.size a ≤ S2x2048x2048.size a := fun k0_t1 arg8_r0 arg9_r0 arg11_r0 arg12_r0 arg13_r0 arg14_r0 arg16_r0 arg17_r0 arg18_r0 arg19_r0 k0_hw1 k0_h8 => k0_hw1.1.2.2.2.2.2.2.2.2.2.2.2.2.2.2.2.2.2.2.2.2.2.2.2.2.2.2.2.1 k0_h8
theorem k0_off24_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h8 : k0_cond8 arg19_r0 = 1#1), ∀ a, (k0_off24 arg14_r0) a + S1x2048x2048.size a ≤ S2x2048x2048.size a := fun k0_t1 arg8_r0 arg9_r0 arg11_r0 arg12_r0 arg13_r0 arg14_r0 arg16_r0 arg17_r0 arg18_r0 arg19_r0 k0_hw1 k0_h8 => k0_hw1.1.2.2.2.2.2.2.2.2.2.2.2.2.2.2.2.2.2.2.2.2.2.2.2.2.2.2.2.2.1 k0_h8
theorem k0_off25_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h8 : k0_cond8 arg19_r0 = 1#1), ∀ a, (k0_off25 arg16_r0) a + S1x512x2048.size a ≤ S2x512x2048.size a := fun k0_t1 arg8_r0 arg9_r0 arg11_r0 arg12_r0 arg13_r0 arg14_r0 arg16_r0 arg17_r0 arg18_r0 arg19_r0 k0_hw1 k0_h8 => k0_hw1.1.2.2.2.2.2.2.2.2.2.2.2.2.2.2.2.2.2.2.2.2.2.2.2.2.2.2.2.2.2.1 k0_h8
theorem k0_off26_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h9 : k0_cond9 arg19_r0 = 1#1), ∀ a, (k0_off26 arg16_r0) a + S1x512x2048.size a ≤ S2x512x2048.size a := fun k0_t1 arg8_r0 arg9_r0 arg11_r0 arg12_r0 arg13_r0 arg14_r0 arg16_r0 arg17_r0 arg18_r0 arg19_r0 k0_hw1 k0_h9 => k0_hw1.1.2.2.2.2.2.2.2.2.2.2.2.2.2.2.2.2.2.2.2.2.2.2.2.2.2.2.2.2.2.2.1 k0_h9
theorem k0_off27_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h9 : k0_cond9 arg19_r0 = 1#1), ∀ a, (k0_off27 arg12_r0) a + S1x2048x2048.size a ≤ S2x2048x2048.size a := fun k0_t1 arg8_r0 arg9_r0 arg11_r0 arg12_r0 arg13_r0 arg14_r0 arg16_r0 arg17_r0 arg18_r0 arg19_r0 k0_hw1 k0_h9 => k0_hw1.1.2.2.2.2.2.2.2.2.2.2.2.2.2.2.2.2.2.2.2.2.2.2.2.2.2.2.2.2.2.2.2 k0_h9
theorem k0_off28_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h9 : k0_cond9 arg19_r0 = 1#1), ∀ a, (k0_off28 arg14_r0) a + S1x2048x2048.size a ≤ S2x2048x2048.size a := fun k0_t1 arg8_r0 arg9_r0 arg11_r0 arg12_r0 arg13_r0 arg14_r0 arg16_r0 arg17_r0 arg18_r0 arg19_r0 k0_hw1 k0_h9 => k0_hw1.2.1 k0_h9
theorem k0_off29_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h10 : k0_cond10 arg19_r0 = 1#1), ∀ a, (k0_off29 arg16_r0) a + S1x512x2048.size a ≤ S2x512x2048.size a := fun k0_t1 arg8_r0 arg9_r0 arg11_r0 arg12_r0 arg13_r0 arg14_r0 arg16_r0 arg17_r0 arg18_r0 arg19_r0 k0_hw1 k0_h10 => k0_hw1.2.2.1 k0_h10
theorem k0_off30_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h10 : k0_cond10 arg19_r0 = 1#1), ∀ a, (k0_off30 arg12_r0) a + S1x2048x2048.size a ≤ S2x2048x2048.size a := fun k0_t1 arg8_r0 arg9_r0 arg11_r0 arg12_r0 arg13_r0 arg14_r0 arg16_r0 arg17_r0 arg18_r0 arg19_r0 k0_hw1 k0_h10 => k0_hw1.2.2.2.1 k0_h10
theorem k0_off31_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h10 : k0_cond10 arg19_r0 = 1#1), ∀ a, (k0_off31 arg14_r0) a + S1x2048x2048.size a ≤ S2x2048x2048.size a := fun k0_t1 arg8_r0 arg9_r0 arg11_r0 arg12_r0 arg13_r0 arg14_r0 arg16_r0 arg17_r0 arg18_r0 arg19_r0 k0_hw1 k0_h10 => k0_hw1.2.2.2.2.1 k0_h10
theorem k0_off32_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h14 : k0_cond14 k0_t1 arg18_r0 arg19_r0 = 1#1), ∀ a, (k0_off32 arg16_r0) a + S1.size a ≤ S2.size a := fun k0_t1 arg8_r0 arg9_r0 arg11_r0 arg12_r0 arg13_r0 arg14_r0 arg16_r0 arg17_r0 arg18_r0 arg19_r0 k0_hw1 k0_h14 => k0_hw1.2.2.2.2.2.1 k0_h14
theorem k0_off33_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h14 : k0_cond14 k0_t1 arg18_r0 arg19_r0 = 1#1), ∀ a, (k0_off33 arg18_r0) a + S512x2048.size a ≤ S8192x2048.size a := fun k0_t1 arg8_r0 arg9_r0 arg11_r0 arg12_r0 arg13_r0 arg14_r0 arg16_r0 arg17_r0 arg18_r0 arg19_r0 k0_hw1 k0_h14 => k0_hw1.2.2.2.2.2.2.1 k0_h14
theorem k0_off34_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h14 : k0_cond14 k0_t1 arg18_r0 arg19_r0 = 1#1), ∀ a, (k0_off34 arg16_r0) a + S1x512x2048.size a ≤ S2x512x2048.size a := fun k0_t1 arg8_r0 arg9_r0 arg11_r0 arg12_r0 arg13_r0 arg14_r0 arg16_r0 arg17_r0 arg18_r0 arg19_r0 k0_hw1 k0_h14 => k0_hw1.2.2.2.2.2.2.2.1 k0_h14
theorem k0_off35_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h18 : k0_cond18 k0_t1 arg18_r0 arg19_r0 = 1#1), ∀ a, (k0_off35 arg17_r0) a + S1.size a ≤ S2.size a := fun k0_t1 arg8_r0 arg9_r0 arg11_r0 arg12_r0 arg13_r0 arg14_r0 arg16_r0 arg17_r0 arg18_r0 arg19_r0 k0_hw1 k0_h18 => k0_hw1.2.2.2.2.2.2.2.2.1 k0_h18
theorem k0_off36_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h18 : k0_cond18 k0_t1 arg18_r0 arg19_r0 = 1#1), ∀ a, (k0_off36 arg18_r0 arg19_r0) a + S512x2048.size a ≤ S8192x2048.size a := fun k0_t1 arg8_r0 arg9_r0 arg11_r0 arg12_r0 arg13_r0 arg14_r0 arg16_r0 arg17_r0 arg18_r0 arg19_r0 k0_hw1 k0_h18 => k0_hw1.2.2.2.2.2.2.2.2.2.1 k0_h18
theorem k0_off37_inb : ∀ (k0_t1 : Fin k0_t1_loop.trips) (arg8_r0 : BitVec 32) (arg9_r0 : BitVec 32) (arg11_r0 : BitVec 32) (arg12_r0 : BitVec 32) (arg13_r0 : BitVec 32) (arg14_r0 : BitVec 32) (arg16_r0 : BitVec 32) (arg17_r0 : BitVec 32) (arg18_r0 : BitVec 32) (arg19_r0 : BitVec 32) (k0_hw1 : k0_chk1 k0_t1 arg8_r0 arg9_r0 arg11_r0 arg12_r0 arg13_r0 arg14_r0 arg16_r0 arg17_r0 arg18_r0 arg19_r0), ∀ (k0_h18 : k0_cond18 k0_t1 arg18_r0 arg19_r0 = 1#1), ∀ a, (k0_off37 arg17_r0) a + S1x512x2048.size a ≤ S2x512x2048.size a := fun k0_t1 arg8_r0 arg9_r0 arg11_r0 arg12_r0 arg13_r0 arg14_r0 arg16_r0 arg17_r0 arg18_r0 arg19_r0 k0_hw1 k0_h18 => k0_hw1.2.2.2.2.2.2.2.2.2.2 k0_h18

def k0_off38 (v52_9_r0 : BitVec 32) : Fin 1 → Nat :=
  let c2_i32_101_r0 : BitVec 32 := 2#32
  let v93_r0 : BitVec 32 := Scalar.remui v52_9_r0 c2_i32_101_r0
  ![v93_r0.toNat]

def k0_off39 (v52_11_r0 : BitVec 32) (v52_10_r0 : BitVec 32) : Fin 2 → Nat :=
  let c512_i32_r0 : BitVec 32 := 512#32
  let true_66_r0 : BitVec 1 := 1#1
  let c1_i32_65_r0 : BitVec 32 := 1#32
  let v53_r0 : BitVec 32 := Scalar.subi v52_11_r0 c1_i32_65_r0
  let v54_r0 : BitVec 32 := Scalar.select true_66_r0 v53_r0 v52_11_r0
  let c_m1_i32_67_r0 : BitVec 32 := 4294967295#32
  let v55_r0 : BitVec 1 := Scalar.cmpi .eq v54_r0 c_m1_i32_67_r0
  let c1_i32_69_r0 : BitVec 32 := 1#32
  let v57_r0 : BitVec 32 := Scalar.subi v52_10_r0 c1_i32_69_r0
  let v58_r0 : BitVec 32 := Scalar.select v55_r0 v57_r0 v52_10_r0
  let c_m1_i32_70_r0 : BitVec 32 := 4294967295#32
  let v59_r0 : BitVec 1 := Scalar.cmpi .eq v58_r0 c_m1_i32_70_r0
  let c15_i32_71_r0 : BitVec 32 := 15#32
  let v60_r0 : BitVec 32 := Scalar.select v59_r0 c15_i32_71_r0 v58_r0
  let c0_i32_72_r0 : BitVec 32 := 0#32
  let v61_r0 : BitVec 32 := Scalar.addi v60_r0 c0_i32_72_r0
  let v94_r0 : BitVec 32 := Scalar.muli c512_i32_r0 v61_r0
  let c0_i32_102_r0 : BitVec 32 := 0#32
  ![v94_r0.toNat, 0]

def k0_chk3 (v52_11_r0 : BitVec 32) (v52_10_r0 : BitVec 32) : Prop :=
  (∀ a, (k0_off39 v52_11_r0 v52_10_r0) a + S512x2048.size a ≤ S8192x2048.size a)
theorem k0_off39_inb : ∀ (v52_11_r0 : BitVec 32) (v52_10_r0 : BitVec 32) (k0_hw3 : k0_chk3 v52_11_r0 v52_10_r0), ∀ a, (k0_off39 v52_11_r0 v52_10_r0) a + S512x2048.size a ≤ S8192x2048.size a := fun v52_11_r0 v52_10_r0 k0_hw3 => k0_hw3

def k0_off40 (v52_9_r0 : BitVec 32) : Fin 3 → Nat :=
  let c2_i32_101_r0 : BitVec 32 := 2#32
  let v93_r0 : BitVec 32 := Scalar.remui v52_9_r0 c2_i32_101_r0
  let c0_i32_103_r0 : BitVec 32 := 0#32
  let c0_i32_104_r0 : BitVec 32 := 0#32
  ![v93_r0.toNat, 0, 0]

def k0_chk2 (v52_9_r0 : BitVec 32) : Prop :=
  (∀ a, (k0_off38 v52_9_r0) a + S1.size a ≤ S2.size a) ∧
  (∀ a, (k0_off40 v52_9_r0) a + S1x512x2048.size a ≤ S2x512x2048.size a)
theorem k0_off38_inb : ∀ (v52_9_r0 : BitVec 32) (k0_hw2 : k0_chk2 v52_9_r0), ∀ a, (k0_off38 v52_9_r0) a + S1.size a ≤ S2.size a := fun v52_9_r0 k0_hw2 => k0_hw2.1
theorem k0_off40_inb : ∀ (v52_9_r0 : BitVec 32) (k0_hw2 : k0_chk2 v52_9_r0), ∀ a, (k0_off40 v52_9_r0) a + S1x512x2048.size a ≤ S2x512x2048.size a := fun v52_9_r0 k0_hw2 => k0_hw2.2
-- ==== ReferenceIdeal.lean ====
abbrev S2x4096x2048 : Shape := ⟨3, ![2, 4096, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x8192 : Shape := ⟨2, ![2048, 8192]⟩
abbrev S2x4096x8192 : Shape := ⟨3, ![2, 4096, 8192]⟩
abbrev S8192x2048 : Shape := ⟨2, ![8192, 2048]⟩

abbrev nBuf : Space → Nat
  | .hbm => 48
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S2048x8192, .f32⟩
  | .hbm, ⟨23, _⟩ => ⟨S2x4096x8192, .f32⟩
  | .hbm, ⟨24, _⟩ => ⟨S_, .f32⟩
  | .hbm, ⟨25, _⟩ => ⟨S2x4096x8192, .f32⟩
  | .hbm, ⟨26, _⟩ => ⟨S2x4096x8192, .f32⟩
  | .hbm, ⟨27, _⟩ => ⟨S2x4096x8192, .f32⟩
  | .hbm, ⟨28, _⟩ => ⟨S8192x2048, .f32⟩
  | .hbm, ⟨29, _⟩ => ⟨S2x4096x2048, .f32⟩
  | .hbm, ⟨30, _⟩ => ⟨S2x4096x2048, .f32⟩
  | .hbm, ⟨31, _⟩ => ⟨S2x4096x2048, .f32⟩
  | .hbm, ⟨32, _⟩ => ⟨S_, .f32⟩
  | .hbm, ⟨33, _⟩ => ⟨S2x4096, .f32⟩
  | .hbm, ⟨34, _⟩ => ⟨S2x4096x1, .f32⟩
  | .hbm, ⟨35, _⟩ => ⟨S_, .f32⟩
  | .hbm, ⟨36, _⟩ => ⟨S2x4096x1, .f32⟩
  | .hbm, ⟨37, _⟩ => ⟨S2x4096x1, .f32⟩
  | .hbm, ⟨38, _⟩ => ⟨S_, .f32⟩
  | .hbm, ⟨39, _⟩ => ⟨S2x4096x1, .f32⟩
  | .hbm, ⟨40, _⟩ => ⟨S2x4096x1, .f32⟩
  | .hbm, ⟨41, _⟩ => ⟨S2x4096x1, .f32⟩
  | .hbm, ⟨42, _⟩ => ⟨S2x4096x2048, .f32⟩
  | .hbm, ⟨43, _⟩ => ⟨S2x4096x2048, .f32⟩
  | .hbm, ⟨44, _⟩ => ⟨S1x1x2048, .f32⟩
  | .hbm, ⟨45, _⟩ => ⟨S2x4096x2048, .f32⟩
  | .hbm, ⟨46, _⟩ => ⟨S2x4096x2048, .f32⟩
  | .hbm, ⟨47, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel2.lean ====
abbrev S2x4096x2048 : Shape := ⟨3, ![2, 4096, 2048]⟩
abbrev S16x2048 : Shape := ⟨2, ![16, 2048]⟩
abbrev S1x2048 : Shape := ⟨2, ![1, 2048]⟩
abbrev S1x2048x10240 : Shape := ⟨3, ![1, 2048, 10240]⟩
abbrev S1x4x512x512 : Shape := ⟨4, ![1, 4, 512, 512]⟩
abbrev S1x4x2048 : Shape := ⟨3, ![1, 4, 2048]⟩
abbrev S1x8x256x256 : Shape := ⟨4, ![1, 8, 256, 256]⟩
abbrev S1x8x256 : Shape := ⟨3, ![1, 8, 256]⟩
abbrev S1x2048x2048 : Shape := ⟨3, ![1, 2048, 2048]⟩
abbrev S1x2048x8192 : Shape := ⟨3, ![1, 2048, 8192]⟩
abbrev S1x8192x2048 : Shape := ⟨3, ![1, 8192, 2048]⟩
abbrev S2048x10240 : Shape := ⟨2, ![2048, 10240]⟩
abbrev S4x512x512 : Shape := ⟨3, ![4, 512, 512]⟩
abbrev S8x256x256 : Shape := ⟨3, ![8, 256, 256]⟩
abbrev S2048x2048 : Shape := ⟨2, ![2048, 2048]⟩
abbrev S2048 : Shape := ⟨1, ![2048]⟩
abbrev S8x256 : Shape := ⟨2, ![8, 256]⟩
abbrev S4x2048 : Shape := ⟨2, ![4, 2048]⟩
abbrev S2048x8192 : Shape := ⟨2, ![2048, 8192]⟩
abbrev S8192x2048 : Shape := ⟨2, ![8192, 2048]⟩
abbrev S1x512x2048 : Shape := ⟨3, ![1, 512, 2048]⟩
abbrev S2048x512 : Shape := ⟨2, ![2048, 512]⟩
abbrev S1x512x512 : Shape := ⟨3, ![1, 512, 512]⟩
abbrev S1x512 : Shape := ⟨2, ![1, 512]⟩
abbrev S4x512 : Shape := ⟨2, ![4, 512]⟩
abbrev S2x256x256 : Shape := ⟨3, ![2, 256, 256]⟩
abbrev S512x2048 : Shape := ⟨2, ![512, 2048]⟩
abbrev S32x8192 : Shape := ⟨2, ![32, 8192]⟩
abbrev S128x2048 : Shape := ⟨2, ![128, 2048]⟩
abbrev S512x512 : Shape := ⟨2, ![512, 512]⟩
abbrev S4x16x512 : Shape := ⟨3, ![4, 16, 512]⟩
abbrev S4x8x512 : Shape := ⟨3, ![4, 8, 512]⟩
abbrev S16x512 : Shape := ⟨2, ![16, 512]⟩
abbrev S512 : Shape := ⟨1, ![512]⟩
abbrev S512x1 : Shape := ⟨2, ![512, 1]⟩
abbrev S16 : Shape := ⟨1, ![16]⟩
abbrev S16x1 : Shape := ⟨2, ![16, 1]⟩
abbrev S8x512 : Shape := ⟨2, ![8, 512]⟩
abbrev S24x512 : Shape := ⟨2, ![24, 512]⟩
abbrev S3x8x512 : Shape := ⟨3, ![3, 8, 512]⟩
abbrev S1x8x512 : Shape := ⟨3, ![1, 8, 512]⟩
abbrev S2x8x512 : Shape := ⟨3, ![2, 8, 512]⟩
abbrev S16x256 : Shape := ⟨2, ![16, 256]⟩
abbrev S1x256x256 : Shape := ⟨3, ![1, 256, 256]⟩
abbrev S256x256 : Shape := ⟨2, ![256, 256]⟩
abbrev S1x16x512 : Shape := ⟨3, ![1, 16, 512]⟩
abbrev S520x512 : Shape := ⟨2, ![520, 512]⟩
abbrev S65x8x512 : Shape := ⟨3, ![65, 8, 512]⟩
abbrev S64x8x512 : Shape := ⟨3, ![64, 8, 512]⟩
abbrev S512x256 : Shape := ⟨2, ![512, 256]⟩
abbrev S528x512 : Shape := ⟨2, ![528, 512]⟩
abbrev S66x8x512 : Shape := ⟨3, ![66, 8, 512]⟩

abbrev nBuf : Space → Nat
  | .hbm => 44
  | .vmem => 57
  | .smem => 0
  | _ => 0

abbrev bufTy : (tb : Table) → Fin (tcTables nBuf tb) → BufTy
  | .hbm, ⟨0, _⟩ => ⟨S2x4096x2048, .f32⟩
  | .hbm, ⟨1, _⟩ => ⟨S16x2048, .f32⟩
  | .hbm, ⟨2, _⟩ => ⟨S1x2048, .f32⟩
  | .hbm, ⟨3, _⟩ => ⟨S1x2048x10240, .f32⟩
  | .hbm, ⟨4, _⟩ => ⟨S1x4x512x512, .f32⟩
  | .hbm, ⟨5, _⟩ => ⟨S1x2048, .f32⟩
  | .hbm, ⟨6, _⟩ => ⟨S1x4x2048, .f32⟩
  | .hbm, ⟨7, _⟩ => ⟨S1x2048, .f32⟩
  | .hbm, ⟨8, _⟩ => ⟨S1x8x256x256, .f32⟩
  | .hbm, ⟨9, _⟩ => ⟨S1x8x256, .f32⟩
  | .hbm, ⟨10, _⟩ => ⟨S1x8x256x256, .f32⟩
  | .hbm, ⟨11, _⟩ => ⟨S1x8x256, .f32⟩
  | .hbm, ⟨12, _⟩ => ⟨S1x2048, .f32⟩
  | .hbm, ⟨13, _⟩ => ⟨S1x2048x2048, .f32⟩
  | .hbm, ⟨14, _⟩ => ⟨S1x2048x8192, .f32⟩
  | .hbm, ⟨15, _⟩ => ⟨S1x8192x2048, .f32⟩
  | .hbm, ⟨16, _⟩ => ⟨S2048x10240, .f32⟩
  | .hbm, ⟨17, _⟩ => ⟨S2048x10240, .bf16⟩
  | .hbm, ⟨18, _⟩ => ⟨S4x512x512, .f32⟩
  | .hbm, ⟨19, _⟩ => ⟨S4x512x512, .bf16⟩
  | .hbm, ⟨20, _⟩ => ⟨S8x256x256, .f32⟩
  | .hbm, ⟨21, _⟩ => ⟨S8x256x256, .bf16⟩
  | .hbm, ⟨22, _⟩ => ⟨S8x256x256, .f32⟩
  | .hbm, ⟨23, _⟩ => ⟨S8x256x256, .bf16⟩
  | .hbm, ⟨24, _⟩ => ⟨S2048x2048, .f32⟩
  | .hbm, ⟨25, _⟩ => ⟨S2048x2048, .bf16⟩
  | .hbm, ⟨26, _⟩ => ⟨S2048, .f32⟩
  | .hbm, ⟨27, _⟩ => ⟨S1x2048, .f32⟩
  | .hbm, ⟨28, _⟩ => ⟨S2048, .f32⟩
  | .hbm, ⟨29, _⟩ => ⟨S1x2048, .f32⟩
  | .hbm, ⟨30, _⟩ => ⟨S2048, .f32⟩
  | .hbm, ⟨31, _⟩ => ⟨S1x2048, .f32⟩
  | .hbm, ⟨32, _⟩ => ⟨S2048, .f32⟩
  | .hbm, ⟨33, _⟩ => ⟨S1x2048, .f32⟩
  | .hbm, ⟨34, _⟩ => ⟨S8x256, .f32⟩
  | .hbm, ⟨35, _⟩ => ⟨S1x2048, .f32⟩
  | .hbm, ⟨36, _⟩ => ⟨S8x256, .f32⟩
  | .hbm, ⟨37, _⟩ => ⟨S1x2048, .f32⟩
  | .hbm, ⟨38, _⟩ => ⟨S4x2048, .f32⟩
  | .hbm, ⟨39, _⟩ => ⟨S2048x8192, .f32⟩
  | .hbm, ⟨40, _⟩ => ⟨S8192x2048, .f32⟩
  | .hbm, ⟨41, _⟩ => ⟨S2x4096x2048, .f32⟩
  | .hbm, ⟨42, _⟩ => ⟨S2048x8192, .bf16⟩
  | .hbm, ⟨43, _⟩ => ⟨S8192x2048, .bf16⟩
  | .local _ .vmem, ⟨0, _⟩ => ⟨S1x512x2048, .f32⟩
  | .local _ .vmem, ⟨1, _⟩ => ⟨S1x512x2048, .f32⟩
  | .local _ .vmem, ⟨2, _⟩ => ⟨S16x2048, .f32⟩
  | .local _ .vmem, ⟨3, _⟩ => ⟨S1x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512, .f32⟩
  | .local _ .vmem, ⟨17, _⟩ => ⟨S1x512, .f32⟩
  | .local _ .vmem, ⟨18, _⟩ => ⟨S4x512, .f32⟩
  | .local _ .vmem, ⟨19, _⟩ => ⟨S4x512, .f32⟩
  | .local _ .vmem, ⟨20, _⟩ => ⟨S1x512, .f32⟩
  | .local _ .vmem, ⟨21, _⟩ => ⟨S1x512, .f32⟩
  | .local _ .vmem, ⟨22, _⟩ => ⟨S2x256x256, .bf16⟩
  | .local _ .vmem, ⟨23, _⟩ => ⟨S2x256x256, .bf16⟩
  | .local _ .vmem, ⟨24, _⟩ => ⟨S1x512, .f32⟩
  | .local _ .vmem, ⟨25, _⟩ => ⟨S1x512, .f32⟩
  | .local _ .vmem, ⟨26, _⟩ => ⟨S2x256x256, .bf16⟩
  | .local _ .vmem, ⟨27, _⟩ => ⟨S2x256x256, .bf16⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S512x2048, .bf16⟩
  | .local _ .vmem, ⟨33, _⟩ => ⟨S512x2048, .bf16⟩
  | .local _ .vmem, ⟨34, _⟩ => ⟨S32x8192, .f32⟩
  | .local _ .vmem, ⟨35, _⟩ => ⟨S32x8192, .f32⟩
  | .local _ .vmem, ⟨36, _⟩ => ⟨S128x2048, .f32⟩
  | .local _ .vmem, ⟨37, _⟩ => ⟨S128x2048, .f32⟩
  | .local _ .vmem, ⟨38, _⟩ => ⟨S1x512x2048, .f32⟩
  | .local _ .vmem, ⟨39, _⟩ => ⟨S1x512x2048, .f32⟩
  | .local _ .vmem, ⟨40, _⟩ => ⟨S32x8192, .bf16⟩
  | .local _ .vmem, ⟨41, _⟩ => ⟨S32x8192, .bf16⟩
  | .local _ .vmem, ⟨42, _⟩ => ⟨S128x2048, .bf16⟩
  | .local _ .vmem, ⟨43, _⟩ => ⟨S128x2048, .bf16⟩
  | .local _ .vmem, ⟨44, _⟩ => ⟨S512x2048, .bf16⟩
  | .local _ .vmem, ⟨45, _⟩ => ⟨S512x512, .f32⟩
  | .local _ .vmem, ⟨46, _⟩ => ⟨S512x512, .f32⟩
  | .local _ .vmem, ⟨47, _⟩ => ⟨S512x512, .f32⟩
  | .local _ .vmem, ⟨48, _⟩ => ⟨S4x16x512, .f32⟩
  | .local _ .vmem, ⟨49, _⟩ => ⟨S4x8x512, .f32⟩
  | .local _ .vmem, ⟨50, _⟩ => ⟨S4x8x512, .f32⟩
  | .local _ .vmem, ⟨51, _⟩ => ⟨S4x16x512, .f32⟩
  | .local _ .vmem, ⟨52, _⟩ => ⟨S4x8x512, .f32⟩
  | .local _ .vmem, ⟨53, _⟩ => ⟨S4x8x512, .f32⟩
  | .local _ .vmem, ⟨54, _⟩ => ⟨S16x512, .f32⟩
  | .local _ .vmem, ⟨55, _⟩ => ⟨S16x512, .f32⟩
  | .local _ .vmem, ⟨56, _⟩ => ⟨S16x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev main_v25_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_stg22_0 : Ref sig .tc := ⟨.vmem, 42, rfl⟩
abbrev cc0_stg22_1 : Ref sig .tc := ⟨.vmem, 43, rfl⟩
abbrev cc0_scratch0 : Ref sig .tc := ⟨.vmem, 44, rfl⟩
abbrev cc0_scratch1 : Ref sig .tc := ⟨.vmem, 45, rfl⟩
abbrev cc0_scratch2 : Ref sig .tc := ⟨.vmem, 46, rfl⟩
abbrev cc0_scratch3 : Ref sig .tc := ⟨.vmem, 47, rfl⟩
abbrev cc0_scratch4 : Ref sig .tc := ⟨.vmem, 48, rfl⟩
abbrev cc0_scratch5 : Ref sig .tc := ⟨.vmem, 49, rfl⟩
abbrev cc0_scratch6 : Ref sig .tc := ⟨.vmem, 50, rfl⟩
abbrev cc0_scratch7 : Ref sig .tc := ⟨.vmem, 51, rfl⟩
abbrev cc0_scratch8 : Ref sig .tc := ⟨.vmem, 52, rfl⟩
abbrev cc0_scratch9 : Ref sig .tc := ⟨.vmem, 53, rfl⟩
abbrev cc0_scratch10 : Ref sig .tc := ⟨.vmem, 54, rfl⟩
abbrev cc0_scratch11 : Ref sig .tc := ⟨.vmem, 55, rfl⟩
abbrev cc0_scratch12 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39
abbrev cc0_sem21_0 : DmaSem sig := 40
abbrev cc0_sem21_1 : DmaSem sig := 41
abbrev cc0_sem22_0 : DmaSem sig := 42
abbrev cc0_sem22_1 : DmaSem sig := 43

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_2 : BitVec 32 := 0#32
  let v4 : BitVec 1 := Scalar.cmpi .eq arg1 c0_i32_2
  let v5 : BitVec 1 := Scalar.andi v0 v4
  let v6 : BitVec 32 := Scalar.extui v5
  let c0_i32_3 : BitVec 32 := 0#32
  let v7 : BitVec 1 := Scalar.cmpi .ne v6 c0_i32_3
  v7

def k0_off1 (i : grid0.Coords) : Fin 3 → Nat :=
  let arg2 : BitVec 32 := BitVec.ofNat 32 (i 2).val
  let v1189 : Index := Scalar.indexCast arg2
  let c0_556 : Index := 0#32
  let c0_557 : Index := 0#32
  ![v1189.toNat, 0, 0]
def k0_off2 (i : grid0.Coords) : Fin 3 → Nat :=
  let arg2 : BitVec 32 := BitVec.ofNat 32 (i 2).val
  let v1196 : Index := Scalar.indexCast arg2
  let c0_561 : Index := 0#32
  let c0_562 : Index := 0#32
  ![v1196.toNat, 0, 0]
def k0_cond3 (i : grid0.Coords) : BitVec 1 :=
  let arg1 : BitVec 32 := BitVec.ofNat 32 (i 1).val
  let c0_i32_4 : BitVec 32 := 0#32
  let v8 : BitVec 1 := Scalar.cmpi .eq arg1 c0_i32_4
  let v9 : BitVec 32 := Scalar.extui v8
  let c0_i32_5 : BitVec 32 := 0#32
  let v10 : BitVec 1 := Scalar.cmpi .ne v9 c0_i32_5
  v10

def k0_off3 (i : grid0.Coords) : Fin 3 → Nat :=
  let arg2 : BitVec 32 := BitVec.ofNat 32 (i 2).val
  let v975 : Index := Scalar.indexCast arg2
  let c0_466 : Index := 0#32
  let c0_467 : Index := 0#32
  ![v975.toNat, 0, 0]
def k0_off4 (i : grid0.Coords) : Fin 3 → Nat :=
  let arg2 : BitVec 32 := BitVec.ofNat 32 (i 2).val
  let v982 : Index := Scalar.indexCast arg2
  let c0_470 : Index := 0#32
  let c0_471 : Index := 0#32
  ![v982.toNat, 0, 0]
def k0_off5 (i : grid0.Coords) : Fin 3 → Nat :=
  let arg2 : BitVec 32 := BitVec.ofNat 32 (i 2).val
  let v18 : Index := Scalar.indexCast arg2
  let c0_12 : Index := 0#32
  let c0_13 : Index := 0#32
  ![v18.toNat, 0, 0]
def k0_off6 (i : grid0.Coords) : Fin 3 → Nat :=
  let arg2 : BitVec 32 := BitVec.ofNat 32 (i 2).val
  let v171 : Index := Scalar.indexCast arg2
  let c0_66 : Index := 0#32
  let c0_67 : Index := 0#32
  ![v171.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg2
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg2
  let c0_i32 : BitVec 32 := 0#32
  let c0_i32_0 : BitVec 32 := 0#32
  ![c0_i32.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let c0_i32_0 : BitVec 32 := 0#32
  ![v3.toNat, c0_i32.toNat]

def cc0_transform_19 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let c0_i32_0 : BitVec 32 := 0#32
  ![v3.toNat, c0_i32.toNat]

def cc0_transform_20 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_21 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let c0_i32_0 : BitVec 32 := 0#32
  ![v3.toNat, c0_i32.toNat]

def cc0_transform_22 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let c0_i32_0 : BitVec 32 := 0#32
  ![v3.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S4x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, false, true]

abbrev stage0_12 : Fin 2 → Memref sig .tc .vmem S2x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, false, true]

abbrev stage0_13 : Fin 2 → Memref sig .tc .vmem S1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, false, true]

abbrev stage0_14 : Fin 2 → Memref sig .tc .vmem S2x256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, false, true]

abbrev stage0_15 : Fin 2 → Memref sig .tc .vmem S1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, false, true]

abbrev stage0_16 : Fin 2 → Memref sig .tc .vmem S1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, false, true]

abbrev stage0_17 : Fin 2 → Memref sig .tc .vmem S512x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, false, true]

abbrev stage0_18 : Fin 2 → Memref sig .tc .vmem S32x8192 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, true]

abbrev stage0_19 : Fin 2 → Memref sig .tc .vmem S128x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, true]

abbrev stage0_20 : Fin 2 → Memref sig .tc .vmem S1x512x2048 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true, false]

abbrev stage0_21 : Fin 2 → Memref sig .tc .vmem S32x8192 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true, true]

abbrev stage0_22 : Fin 2 → Memref sig .tc .vmem S128x2048 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true, true]
-- ==== Proof.Words.lean ====
/-
  The twelve words the pipeline's loop carries, in closed form: before trip `n`, with `m = n / 4` the row block
  and `f = n % 4` the column tile, how many copies each ring has started and waited for, and the two grid
  coordinates. Every condition, offset and check of the loop's body is then a closed statement about the trip
  number, decided over the 64 trips.
-/
module

public import proofs.«01_k».proof.Defs
public import proofs.«01_k».proof.Proof.Gen.KernelIdeal.Skeleton
public import Idealize.ShloMosaic.Lib.Ring

@[expose] public section

namespace Cert.Proof.Mlp

open Cert.KernelIdeal
open Idealize.ShloMosaic

/-- Copies of `h` started before trip `n`: the block of the current row block is always on its way. -/
def wHs (n : Nat) : BitVec 32 := BitVec.ofNat 32 (min 16 (n / 4 + 1))
/-- Copies of each weight started before trip `n`. -/
def wWs (n : Nat) : BitVec 32 := BitVec.ofNat 32 (min 64 (n + 1))
/-- The whole row blocks finished before trip `n`. -/
def wM (n : Nat) : BitVec 32 := BitVec.ofNat 32 (n / 4)
/-- The trips done. -/
def wK (n : Nat) : BitVec 32 := BitVec.ofNat 32 n
/-- Copies out waited for before trip `n`. -/
def wOw (n : Nat) : BitVec 32 := BitVec.ofNat 32 ((n - 1) / 4)
/-- One at the loop's end, else zero. -/
def wEnd (n : Nat) : BitVec 32 := BitVec.ofNat 32 (n / 64)
/-- The row block's coordinate, back at 0 at the loop's end. -/
def wRow (n : Nat) : BitVec 32 := BitVec.ofNat 32 (n / 4 % 16)
/-- The column tile's coordinate. -/
def wCol (n : Nat) : BitVec 32 := BitVec.ofNat 32 (n % 4)

/-- The twelve carried words before trip `n`. -/
abbrev words (n : Nat) : BitVec 32 × BitVec 32 × BitVec 32 × BitVec 32 × BitVec 32 × BitVec 32 × BitVec 32
    × BitVec 32 × BitVec 32 × BitVec 32 × BitVec 32 × BitVec 32 :=
  (wHs n, wM n, wEnd n, wWs n, wK n, wWs n, wK n, wEnd n, wM n, wOw n, wRow n, wCol n)

abbrev Trip : Type := Fin k0_t1_loop.trips

theorem trips_eq : k0_t1_loop.trips = 64 := by decide
theorem trip_lt (k : Trip) : k.val < 64 := trips_eq ▸ k.isLt

/-! ## The conditions -/

theorem cond1_iff (k : Trip) : k0_cond1 k (wRow k.val) (wCol k.val) = 1#1 ↔ k.val % 4 = 3 ∧ k.val < 63 := by
  revert k; decide +kernel
theorem cond2_iff (k : Trip) : k0_cond2 k (wCol k.val) = 1#1 ↔ k.val < 63 := by revert k; decide +kernel
theorem cond3_iff (k : Trip) : k0_cond3 k (wCol k.val) = 1#1 ↔ k.val < 63 := by revert k; decide +kernel
theorem cond4_iff (k : Trip) : k0_cond4 k (wRow k.val) (wCol k.val) = 1#1 ↔ k.val % 4 = 0 := by revert k; decide +kernel
theorem cond5_true (k : Trip) : k0_cond5 k (wCol k.val) = 1#1 := by revert k; decide +kernel
theorem cond6_true (k : Trip) : k0_cond6 k (wCol k.val) = 1#1 := by revert k; decide +kernel
theorem cond8_iff (k : Trip) : k0_cond8 (wCol k.val) = 1#1 ↔ k.val % 4 = 0 := by revert k; decide +kernel
theorem cond9_iff (k : Trip) : k0_cond9 (wCol k.val) = 1#1 ↔ k.val % 4 ≠ 0 ∧ k.val % 4 ≠ 3 := by revert k; decide +kernel
theorem cond10_iff (k : Trip) : k0_cond10 (wCol k.val) = 1#1 ↔ k.val % 4 = 3 := by revert k; decide +kernel
theorem cond14_iff (k : Trip) : k0_cond14 k (wRow k.val) (wCol k.val) = 1#1 ↔ k.val % 4 = 3 := by revert k; decide +kernel
theorem cond18_iff (k : Trip) : k0_cond18 k (wRow k.val) (wCol k.val) = 1#1 ↔ k.val % 4 = 0 ∧ k.val ≠ 0 := by
  revert k; decide +kernel

/-! ## The offsets -/

/-- A slot's offsets in a two-slot buffer. -/
abbrev slotOff (s : Fin 2) : Fin 3 → Nat := ![s.val, 0, 0]
/-- A slot's semaphore in an array of two. -/
abbrev semOff (s : Fin 2) : Fin 1 → Nat := ![s.val]
/-- Row block `b` of an array of 16 blocks of 512 rows. -/
abbrev rowOff (b : Fin 16) : Fin 2 → Nat := ![512 * b.val, 0]
/-- Column tile `b` of the first weight. -/
abbrev w1Off (b : Fin 4) : Fin 2 → Nat := ![0, 2048 * b.val]
/-- Row tile `b` of the second weight. -/
abbrev w2Off (b : Fin 4) : Fin 2 → Nat := ![2048 * b.val, 0]

/-- The row block a trip works on, and the next and the previous ones. -/
abbrev rb (n : Nat) : Fin 16 := Ring.bk 16 (n / 4)
/-- The weight tile of a trip. -/
abbrev tl (n : Nat) : Fin 4 := Ring.sl 4 n
/-- The slot of a trip's weight tiles. -/
abbrev ws (n : Nat) : Fin 2 := Ring.sl 2 n
/-- The slot of a trip's row block. -/
abbrev hs (n : Nat) : Fin 2 := Ring.sl 2 (n / 4)

theorem off4_eq (k : Trip) : k.val % 4 = 3 ∧ k.val < 63 → k0_off4 (wHs k.val) = semOff (hs (k.val + 1)) := by revert k; decide +kernel
theorem off5_eq (k : Trip) : k.val % 4 = 3 ∧ k.val < 63 → k0_off5 (wHs k.val) = slotOff (hs (k.val + 1)) := by revert k; decide +kernel
theorem off6_eq (k : Trip) : k.val % 4 = 3 ∧ k.val < 63 → k0_off6 (wRow k.val) (wCol k.val) = rowOff (rb (k.val + 1)) := by
  revert k; decide +kernel
theorem off7_eq (k : Trip) : k.val < 63 → k0_off7 (wWs k.val) = semOff (ws (k.val + 1)) := by revert k; decide +kernel
theorem off8_eq (k : Trip) : k.val < 63 → k0_off8 (wWs k.val) = slotOff (ws (k.val + 1)) := by revert k; decide +kernel
theorem off9_eq (k : Trip) : k.val < 63 → k0_off9 (wCol k.val) = w1Off (tl (k.val + 1)) := by revert k; decide +kernel
theorem off10_eq (k : Trip) : k.val < 63 → k0_off10 (wWs k.val) = semOff (ws (k.val + 1)) := by revert k; decide +kernel
theorem off11_eq (k : Trip) : k.val < 63 → k0_off11 (wWs k.val) = slotOff (ws (k.val + 1)) := by revert k; decide +kernel
theorem off12_eq (k : Trip) : k.val < 63 → k0_off12 (wCol k.val) = w2Off (tl (k.val + 1)) := by revert k; decide +kernel
theorem off13_eq (k : Trip) : k0_off13 (wM k.val) = semOff (hs k.val) := by revert k; decide +kernel
theorem off14_eq (k : Trip) : k0_off14 (wM k.val) = slotOff (hs k.val) := by revert k; decide +kernel
theorem off15_eq (k : Trip) : k0_off15 (wRow k.val) = rowOff (rb k.val) := by revert k; decide +kernel
theorem off16_eq (k : Trip) : k0_off16 (wK k.val) = semOff (ws k.val) := by revert k; decide +kernel
theorem off17_eq (k : Trip) : k0_off17 (wK k.val) = slotOff (ws k.val) := by revert k; decide +kernel
theorem off18_eq (k : Trip) : k0_off18 (wCol k.val) = w1Off (tl k.val) := by revert k; decide +kernel
theorem off19_eq (k : Trip) : k0_off19 (wK k.val) = semOff (ws k.val) := by revert k; decide +kernel
theorem off20_eq (k : Trip) : k0_off20 (wK k.val) = slotOff (ws k.val) := by revert k; decide +kernel
theorem off21_eq (k : Trip) : k0_off21 (wCol k.val) = w2Off (tl k.val) := by revert k; decide +kernel
theorem off22_eq (k : Trip) : k0_off22 (wM k.val) = slotOff (hs k.val) := by revert k; decide +kernel
theorem off23_eq (k : Trip) : k0_off23 (wK k.val) = slotOff (ws k.val) := by revert k; decide +kernel
theorem off24_eq (k : Trip) : k0_off24 (wK k.val) = slotOff (ws k.val) := by revert k; decide +kernel
theorem off25_eq (k : Trip) : k0_off25 (wM k.val) = slotOff (hs k.val) := by revert k; decide +kernel
theorem off26_eq (k : Trip) : k0_off26 (wM k.val) = slotOff (hs k.val) := by revert k; decide +kernel
theorem off27_eq (k : Trip) : k0_off27 (wK k.val) = slotOff (ws k.val) := by revert k; decide +kernel
theorem off28_eq (k : Trip) : k0_off28 (wK k.val) = slotOff (ws k.val) := by revert k; decide +kernel
theorem off29_eq (k : Trip) : k0_off29 (wM k.val) = slotOff (hs k.val) := by revert k; decide +kernel
theorem off30_eq (k : Trip) : k0_off30 (wK k.val) = slotOff (ws k.val) := by revert k; decide +kernel
theorem off31_eq (k : Trip) : k0_off31 (wK k.val) = slotOff (ws k.val) := by revert k; decide +kernel
theorem off32_eq (k : Trip) : k0_off32 (wM k.val) = semOff (hs k.val) := by revert k; decide +kernel
theorem off33_eq (k : Trip) : k0_off33 (wRow k.val) = rowOff (rb k.val) := by revert k; decide +kernel
theorem off34_eq (k : Trip) : k0_off34 (wM k.val) = slotOff (hs k.val) := by revert k; decide +kernel
theorem off35_eq (k : Trip) : k0_off35 (wOw k.val) = semOff (hs (k.val - 1)) := by revert k; decide +kernel
theorem off36_eq (k : Trip) : k.val % 4 = 0 ∧ k.val ≠ 0 → k0_off36 (wRow k.val) (wCol k.val) = rowOff (rb (k.val - 1)) := by
  revert k; decide +kernel
theorem off37_eq (k : Trip) : k0_off37 (wOw k.val) = slotOff (hs (k.val - 1)) := by revert k; decide +kernel

/-! ## The checks -/

theorem chk1_0_all (k : Trip) : k0_chk1_0 k (wHs k.val) (wM k.val) (wWs k.val) (wK k.val) (wWs k.val) (wK k.val) (wM k.val)
    (wOw k.val) (wRow k.val) (wCol k.val) := by
  revert k; decide +kernel
theorem chk1_1_all (k : Trip) : k0_chk1_1 k (wHs k.val) (wM k.val) (wWs k.val) (wK k.val) (wWs k.val) (wK k.val) (wM k.val)
    (wOw k.val) (wRow k.val) (wCol k.val) := by
  revert k; decide +kernel
theorem chk1_all (k : Trip) : k0_chk1 k (wHs k.val) (wM k.val) (wWs k.val) (wK k.val) (wWs k.val) (wK k.val) (wM k.val)
    (wOw k.val) (wRow k.val) (wCol k.val) := ⟨chk1_0_all k, chk1_1_all k⟩

theorem chk2_end : k0_chk2 (wOw 64) := by decide +kernel
theorem chk3_end : k0_chk3 (wCol 64) (wRow 64) := by decide +kernel
theorem off38_end : k0_off38 (wOw 64) = semOff 1 := by decide +kernel
theorem off39_end : k0_off39 (wCol 64) (wRow 64) = rowOff 15 := by decide +kernel
theorem off40_end : k0_off40 (wOw 64) = slotOff 1 := by decide +kernel

end Cert.Proof.Mlp
-- ==== Proof.Names.lean ====
/-
  The names of the pipeline's pieces: a slot of a two-slot buffer, a slot's semaphore, a block of an array in the
  main memory; and the equations by which the body's slices, at the offsets it computes from the carried words, are
  these names.
-/
module

public import proofs.«01_k».proof.Proof.Words
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.KitQuiescent
public import Idealize.ShloMosaic.Lib.Tactic
public import Idealize.ShloMosaic.Lib.Tactic.Stretches
public import Idealize.ShloMosaic.Lib.VecWindow

@[expose] public section

noncomputable section

namespace Cert.Proof.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The operands -/

abbrev hM : Memref sig .tc .hbm S8192x2048 .f32 := Memref.whole main_v7
abbrev gM : Memref sig .tc .hbm S1x2048 .f32 := Memref.whole main_v1
abbrev pM : Memref sig .tc .hbm S2048x8192 .bf16 := Memref.whole main_v4
abbrev qM : Memref sig .tc .hbm S8192x2048 .bf16 := Memref.whole main_v6
abbrev eM : Memref sig .tc .hbm S1x2048 .f32 := Memref.whole main_v2
abbrev oM : Memref sig .tc .hbm S8192x2048 .f32 := Memref.whole main_v8
/-- The scratch holding the normalised rows. -/
abbrev uB : Memref sig .tc .vmem S512x2048 .bf16 := Memref.whole cc0_scratch0
/-- The two-slot buffers of `h`, of the two weights and of the result, and the copies of the two gains. -/
abbrev hB : Memref sig .tc .vmem S2x512x2048 .f32 := Memref.whole cc0_scoped0
abbrev gB : Memref sig .tc .vmem S1x2048 .f32 := Memref.whole cc0_scoped2
abbrev pB : Memref sig .tc .vmem S2x2048x2048 .bf16 := Memref.whole cc0_scoped3
abbrev qB : Memref sig .tc .vmem S2x2048x2048 .bf16 := Memref.whole cc0_scoped5
abbrev eB : Memref sig .tc .vmem S1x2048 .f32 := Memref.whole cc0_scoped7
abbrev oB : Memref sig .tc .vmem S2x512x2048 .f32 := Memref.whole cc0_scoped8

/-! ## Slots, semaphores, blocks -/

theorem slotOff_inbF (s : Fin 2) : ∀ a, slotOff s a + S1x512x2048.size a ≤ S2x512x2048.size a := by revert s; decide
theorem slotOff_inbW (s : Fin 2) : ∀ a, slotOff s a + S1x2048x2048.size a ≤ S2x2048x2048.size a := by revert s; decide
theorem semOff_inb (s : Fin 2) : ∀ a, semOff s a + S1.size a ≤ S2.size a := by revert s; decide
theorem rowOff_inb (b : Fin 16) : ∀ a, rowOff b a + S512x2048.size a ≤ S8192x2048.size a := by revert b; decide
theorem w1Off_inb (b : Fin 4) : ∀ a, w1Off b a + S2048x2048.size a ≤ S2048x8192.size a := by revert b; decide
theorem w2Off_inb (b : Fin 4) : ∀ a, w2Off b a + S2048x2048.size a ≤ S8192x2048.size a := by revert b; decide

/-- Slot `s` of the buffer of `h`, and of the result's. -/
def hSlot (s : Fin 2) : Memref sig .tc .vmem S512x2048 .f32 :=
  (hB.slice (Rect.unit (s := S2x512x2048) (slotOff s) S1x512x2048.size (slotOff_inbF s)) (fun _ => rfl)).squeeze S512x2048 squeezes_S1x512x2048_S512x2048
def oSlot (s : Fin 2) : Memref sig .tc .vmem S512x2048 .f32 :=
  (oB.slice (Rect.unit (s := S2x512x2048) (slotOff s) S1x512x2048.size (slotOff_inbF s)) (fun _ => rfl)).squeeze S512x2048 squeezes_S1x512x2048_S512x2048
/-- Slot `s` of each weight's buffer. -/
def pSlot (s : Fin 2) : Memref sig .tc .vmem S2048x2048 .bf16 :=
  (pB.slice (Rect.unit (s := S2x2048x2048) (slotOff s) S1x2048x2048.size (slotOff_inbW s)) (fun _ => rfl)).squeeze S2048x2048 squeezes_S1x2048x2048_S2048x2048
def qSlot (s : Fin 2) : Memref sig .tc .vmem S2048x2048 .bf16 :=
  (qB.slice (Rect.unit (s := S2x2048x2048) (slotOff s) S1x2048x2048.size (slotOff_inbW s)) (fun _ => rfl)).squeeze S2048x2048 squeezes_S1x2048x2048_S2048x2048
/-- The semaphore of slot `s` in each array. -/
def hSem (s : Fin 2) : DmaSems sig S_ := (cc0_scoped1.slice (Rect.unit (s := S2) (semOff s) S1.size (semOff_inb s))).squeeze S_ squeezes_S1_S_
def pSem (s : Fin 2) : DmaSems sig S_ := (cc0_scoped4.slice (Rect.unit (s := S2) (semOff s) S1.size (semOff_inb s))).squeeze S_ squeezes_S1_S_
def qSem (s : Fin 2) : DmaSems sig S_ := (cc0_scoped6.slice (Rect.unit (s := S2) (semOff s) S1.size (semOff_inb s))).squeeze S_ squeezes_S1_S_
def oSem (s : Fin 2) : DmaSems sig S_ := (cc0_scoped9.slice (Rect.unit (s := S2) (semOff s) S1.size (semOff_inb s))).squeeze S_ squeezes_S1_S_
/-- Row block `b` of `h` and of the result; column tile `b` of the first weight; row tile `b` of the second. -/
def hBlk (b : Fin 16) : Memref sig .tc .hbm S512x2048 .f32 := hM.slice (Rect.unit (s := S8192x2048) (rowOff b) S512x2048.size (rowOff_inb b)) (fun _ => rfl)
def oBlk (b : Fin 16) : Memref sig .tc .hbm S512x2048 .f32 := oM.slice (Rect.unit (s := S8192x2048) (rowOff b) S512x2048.size (rowOff_inb b)) (fun _ => rfl)
def pBlk (b : Fin 4) : Memref sig .tc .hbm S2048x2048 .bf16 := pM.slice (Rect.unit (s := S2048x8192) (w1Off b) S2048x2048.size (w1Off_inb b)) (fun _ => rfl)
def qBlk (b : Fin 4) : Memref sig .tc .hbm S2048x2048 .bf16 := qM.slice (Rect.unit (s := S8192x2048) (w2Off b) S2048x2048.size (w2Off_inb b)) (fun _ => rfl)

instance (s : Fin 2) : ClosedOff (slotOff s) := ⟨slotOff s, rfl⟩
instance (b : Fin 16) : ClosedOff (rowOff b) := ⟨rowOff b, rfl⟩
instance (b : Fin 4) : ClosedOff (w1Off b) := ⟨w1Off b, rfl⟩
instance (b : Fin 4) : ClosedOff (w2Off b) := ⟨w2Off b, rfl⟩

/-- The boxes of the loads and stores at trip `k`. -/
instance (k : Trip) : ClosedOff (k0_off22 (wM k.val)) := ⟨slotOff (hs k.val), off22_eq k⟩
instance (k : Trip) : ClosedOff (k0_off23 (wK k.val)) := ⟨slotOff (ws k.val), off23_eq k⟩
instance (k : Trip) : ClosedOff (k0_off24 (wK k.val)) := ⟨slotOff (ws k.val), off24_eq k⟩
instance (k : Trip) : ClosedOff (k0_off25 (wM k.val)) := ⟨slotOff (hs k.val), off25_eq k⟩
instance (k : Trip) : ClosedOff (k0_off26 (wM k.val)) := ⟨slotOff (hs k.val), off26_eq k⟩
instance (k : Trip) : ClosedOff (k0_off27 (wK k.val)) := ⟨slotOff (ws k.val), off27_eq k⟩
instance (k : Trip) : ClosedOff (k0_off28 (wK k.val)) := ⟨slotOff (ws k.val), off28_eq k⟩
instance (k : Trip) : ClosedOff (k0_off29 (wM k.val)) := ⟨slotOff (hs k.val), off29_eq k⟩
instance (k : Trip) : ClosedOff (k0_off30 (wK k.val)) := ⟨slotOff (ws k.val), off30_eq k⟩
instance (k : Trip) : ClosedOff (k0_off31 (wK k.val)) := ⟨slotOff (ws k.val), off31_eq k⟩

/-! ## The body's slices are these names -/

section Canon

private theorem sem_congr (A : DmaSems sig S2) {off off' : Fin 1 → Nat} (e : off = off') (hh hh') :
    (A.slice (Rect.unit (s := S2) off S1.size hh)).squeeze S_ squeezes_S1_S_
      = (A.slice (Rect.unit (s := S2) off' S1.size hh')).squeeze S_ squeezes_S1_S_ :=
  congrArg (fun B : DmaSems sig S1 => B.squeeze S_ squeezes_S1_S_) (SemArray.slice_unit_congr _ e _ _)
private theorem slotF_congr (M : Memref sig .tc .vmem S2x512x2048 .f32) {off off' : Fin 3 → Nat} (e : off = off') (hh hh' hs hs') :
    (M.slice (Rect.unit (s := S2x512x2048) off S1x512x2048.size hh) hs).squeeze S512x2048 squeezes_S1x512x2048_S512x2048
      = (M.slice (Rect.unit (s := S2x512x2048) off' S1x512x2048.size hh') hs').squeeze S512x2048 squeezes_S1x512x2048_S512x2048 :=
  congrArg (fun B : Memref sig .tc .vmem S1x512x2048 .f32 => B.squeeze S512x2048 squeezes_S1x512x2048_S512x2048) (Memref.slice_unit_congr _ e _ _ _ _)
private theorem slotW_congr (M : Memref sig .tc .vmem S2x2048x2048 .bf16) {off off' : Fin 3 → Nat} (e : off = off') (hh hh' hs hs') :
    (M.slice (Rect.unit (s := S2x2048x2048) off S1x2048x2048.size hh) hs).squeeze S2048x2048 squeezes_S1x2048x2048_S2048x2048
      = (M.slice (Rect.unit (s := S2x2048x2048) off' S1x2048x2048.size hh') hs').squeeze S2048x2048 squeezes_S1x2048x2048_S2048x2048 :=
  congrArg (fun B : Memref sig .tc .vmem S1x2048x2048 .bf16 => B.squeeze S2048x2048 squeezes_S1x2048x2048_S2048x2048) (Memref.slice_unit_congr _ e _ _ _ _)

/-! The prologue: slot, semaphore and block 0. -/
@[sl_canon] theorem hSem_0 (hh) : (cc0_scoped1.slice (Rect.unit (s := S2) k0_off1 S1.size hh)).squeeze S_ squeezes_S1_S_ = hSem 0 := sem_congr _ (by decide) _ _
@[sl_canon] theorem pSem_0 (hh) : (cc0_scoped4.slice (Rect.unit (s := S2) k0_off1 S1.size hh)).squeeze S_ squeezes_S1_S_ = pSem 0 := sem_congr _ (by decide) _ _
@[sl_canon] theorem qSem_0 (hh) : (cc0_scoped6.slice (Rect.unit (s := S2) k0_off1 S1.size hh)).squeeze S_ squeezes_S1_S_ = qSem 0 := sem_congr _ (by decide) _ _
@[sl_canon] theorem hSlot_0 (hh hs) : (hB.slice (Rect.unit (s := S2x512x2048) k0_off2 S1x512x2048.size hh) hs).squeeze S512x2048 squeezes_S1x512x2048_S512x2048 = hSlot 0 := slotF_congr _ (by decide) _ _ _ _
@[sl_canon] theorem pSlot_0 (hh hs) : (pB.slice (Rect.unit (s := S2x2048x2048) k0_off3 S1x2048x2048.size hh) hs).squeeze S2048x2048 squeezes_S1x2048x2048_S2048x2048 = pSlot 0 := slotW_congr _ (by decide) _ _ _ _
@[sl_canon] theorem qSlot_0 (hh hs) : (qB.slice (Rect.unit (s := S2x2048x2048) k0_off3 S1x2048x2048.size hh) hs).squeeze S2048x2048 squeezes_S1x2048x2048_S2048x2048 = qSlot 0 := slotW_congr _ (by decide) _ _ _ _
@[sl_canon] theorem hBlk_0 (hh hs) : hM.slice (Rect.unit (s := S8192x2048) ![0, 0] S512x2048.size hh) hs = hBlk 0 := Memref.slice_unit_congr _ (by decide) _ _ _ (fun _ => rfl)
@[sl_canon] theorem pBlk_0 (hh hs) : pM.slice (Rect.unit (s := S2048x8192) ![0, 0] S2048x2048.size hh) hs = pBlk 0 := Memref.slice_unit_congr _ (by decide) _ _ _ (fun _ => rfl)
@[sl_canon] theorem qBlk_0 (hh hs) : qM.slice (Rect.unit (s := S8192x2048) ![0, 0] S2048x2048.size hh) hs = qBlk 0 := Memref.slice_unit_congr _ (by decide) _ _ _ (fun _ => rfl)

/-! The transfers a trip starts: the next tiles of the weights, and the next row block after the last tile. -/
@[sl_canon] theorem hSem_i (k : Trip) (hk : k.val % 4 = 3 ∧ k.val < 63) (hh) : (cc0_scoped1.slice (Rect.unit (s := S2) (k0_off4 (wHs k.val)) S1.size hh)).squeeze S_ squeezes_S1_S_ = hSem (hs (k.val + 1)) := sem_congr _ (off4_eq k hk) _ _
@[sl_canon] theorem hSlot_i (k : Trip) (hk : k.val % 4 = 3 ∧ k.val < 63) (hh hs) : (hB.slice (Rect.unit (s := S2x512x2048) (k0_off5 (wHs k.val)) S1x512x2048.size hh) hs).squeeze S512x2048 squeezes_S1x512x2048_S512x2048 = hSlot (Mlp.hs (k.val + 1)) := slotF_congr _ (off5_eq k hk) _ _ _ _
@[sl_canon] theorem hBlk_i (k : Trip) (hk : k.val % 4 = 3 ∧ k.val < 63) (hh hs) : hM.slice (Rect.unit (s := S8192x2048) (k0_off6 (wRow k.val) (wCol k.val)) S512x2048.size hh) hs = hBlk (rb (k.val + 1)) := Memref.slice_unit_congr _ (off6_eq k hk) _ _ _ (fun _ => rfl)
@[sl_canon] theorem pSem_i (k : Trip) (hk : k.val < 63) (hh) : (cc0_scoped4.slice (Rect.unit (s := S2) (k0_off7 (wWs k.val)) S1.size hh)).squeeze S_ squeezes_S1_S_ = pSem (ws (k.val + 1)) := sem_congr _ (off7_eq k hk) _ _
@[sl_canon] theorem pSlot_i (k : Trip) (hk : k.val < 63) (hh hs) : (pB.slice (Rect.unit (s := S2x2048x2048) (k0_off8 (wWs k.val)) S1x2048x2048.size hh) hs).squeeze S2048x2048 squeezes_S1x2048x2048_S2048x2048 = pSlot (ws (k.val + 1)) := slotW_congr _ (off8_eq k hk) _ _ _ _
@[sl_canon] theorem pBlk_i (k : Trip) (hk : k.val < 63) (hh hs) : pM.slice (Rect.unit (s := S2048x8192) (k0_off9 (wCol k.val)) S2048x2048.size hh) hs = pBlk (tl (k.val + 1)) := Memref.slice_unit_congr _ (off9_eq k hk) _ _ _ (fun _ => rfl)
@[sl_canon] theorem qSem_i (k : Trip) (hk : k.val < 63) (hh) : (cc0_scoped6.slice (Rect.unit (s := S2) (k0_off10 (wWs k.val)) S1.size hh)).squeeze S_ squeezes_S1_S_ = qSem (ws (k.val + 1)) := sem_congr _ (off10_eq k hk) _ _
@[sl_canon] theorem qSlot_i (k : Trip) (hk : k.val < 63) (hh hs) : (qB.slice (Rect.unit (s := S2x2048x2048) (k0_off11 (wWs k.val)) S1x2048x2048.size hh) hs).squeeze S2048x2048 squeezes_S1x2048x2048_S2048x2048 = qSlot (ws (k.val + 1)) := slotW_congr _ (off11_eq k hk) _ _ _ _
@[sl_canon] theorem qBlk_i (k : Trip) (hk : k.val < 63) (hh hs) : qM.slice (Rect.unit (s := S8192x2048) (k0_off12 (wCol k.val)) S2048x2048.size hh) hs = qBlk (tl (k.val + 1)) := Memref.slice_unit_congr _ (off12_eq k hk) _ _ _ (fun _ => rfl)

/-! The transfers a trip waits for. -/
@[sl_canon] theorem hSem_w (k : Trip) (hh) : (cc0_scoped1.slice (Rect.unit (s := S2) (k0_off13 (wM k.val)) S1.size hh)).squeeze S_ squeezes_S1_S_ = hSem (hs k.val) := sem_congr _ (off13_eq k) _ _
@[sl_canon] theorem hSlot_w (k : Trip) (hh hs) : (hB.slice (Rect.unit (s := S2x512x2048) (k0_off14 (wM k.val)) S1x512x2048.size hh) hs).squeeze S512x2048 squeezes_S1x512x2048_S512x2048 = hSlot (Mlp.hs k.val) := slotF_congr _ (off14_eq k) _ _ _ _
@[sl_canon] theorem hBlk_w (k : Trip) (hh hs) : hM.slice (Rect.unit (s := S8192x2048) (k0_off15 (wRow k.val)) S512x2048.size hh) hs = hBlk (rb k.val) := Memref.slice_unit_congr _ (off15_eq k) _ _ _ (fun _ => rfl)
@[sl_canon] theorem pSem_w (k : Trip) (hh) : (cc0_scoped4.slice (Rect.unit (s := S2) (k0_off16 (wK k.val)) S1.size hh)).squeeze S_ squeezes_S1_S_ = pSem (ws k.val) := sem_congr _ (off16_eq k) _ _
@[sl_canon] theorem pSlot_w (k : Trip) (hh hs) : (pB.slice (Rect.unit (s := S2x2048x2048) (k0_off17 (wK k.val)) S1x2048x2048.size hh) hs).squeeze S2048x2048 squeezes_S1x2048x2048_S2048x2048 = pSlot (ws k.val) := slotW_congr _ (off17_eq k) _ _ _ _
@[sl_canon] theorem pBlk_w (k : Trip) (hh hs) : pM.slice (Rect.unit (s := S2048x8192) (k0_off18 (wCol k.val)) S2048x2048.size hh) hs = pBlk (tl k.val) := Memref.slice_unit_congr _ (off18_eq k) _ _ _ (fun _ => rfl)
@[sl_canon] theorem qSem_w (k : Trip) (hh) : (cc0_scoped6.slice (Rect.unit (s := S2) (k0_off19 (wK k.val)) S1.size hh)).squeeze S_ squeezes_S1_S_ = qSem (ws k.val) := sem_congr _ (off19_eq k) _ _
@[sl_canon] theorem qSlot_w (k : Trip) (hh hs) : (qB.slice (Rect.unit (s := S2x2048x2048) (k0_off20 (wK k.val)) S1x2048x2048.size hh) hs).squeeze S2048x2048 squeezes_S1x2048x2048_S2048x2048 = qSlot (ws k.val) := slotW_congr _ (off20_eq k) _ _ _ _
@[sl_canon] theorem qBlk_w (k : Trip) (hh hs) : qM.slice (Rect.unit (s := S8192x2048) (k0_off21 (wCol k.val)) S2048x2048.size hh) hs = qBlk (tl k.val) := Memref.slice_unit_congr _ (off21_eq k) _ _ _ (fun _ => rfl)

/-! The copies out: started after the last tile, waited for after the next block's first. -/
@[sl_canon] theorem oSem_i (k : Trip) (hh) : (cc0_scoped9.slice (Rect.unit (s := S2) (k0_off32 (wM k.val)) S1.size hh)).squeeze S_ squeezes_S1_S_ = oSem (hs k.val) := sem_congr _ (off32_eq k) _ _
@[sl_canon] theorem oBlk_i (k : Trip) (hh hs) : oM.slice (Rect.unit (s := S8192x2048) (k0_off33 (wRow k.val)) S512x2048.size hh) hs = oBlk (rb k.val) := Memref.slice_unit_congr _ (off33_eq k) _ _ _ (fun _ => rfl)
@[sl_canon] theorem oSlot_i (k : Trip) (hh hs) : (oB.slice (Rect.unit (s := S2x512x2048) (k0_off34 (wM k.val)) S1x512x2048.size hh) hs).squeeze S512x2048 squeezes_S1x512x2048_S512x2048 = oSlot (Mlp.hs k.val) := slotF_congr _ (off34_eq k) _ _ _ _
@[sl_canon] theorem oSem_w (k : Trip) (hh) : (cc0_scoped9.slice (Rect.unit (s := S2) (k0_off35 (wOw k.val)) S1.size hh)).squeeze S_ squeezes_S1_S_ = oSem (hs (k.val - 1)) := sem_congr _ (off35_eq k) _ _
@[sl_canon] theorem oBlk_w (k : Trip) (hk : k.val % 4 = 0 ∧ k.val ≠ 0) (hh hs) : oM.slice (Rect.unit (s := S8192x2048) (k0_off36 (wRow k.val) (wCol k.val)) S512x2048.size hh) hs = oBlk (rb (k.val - 1)) := Memref.slice_unit_congr _ (off36_eq k hk) _ _ _ (fun _ => rfl)
@[sl_canon] theorem oSlot_w (k : Trip) (hh hs) : (oB.slice (Rect.unit (s := S2x512x2048) (k0_off37 (wOw k.val)) S1x512x2048.size hh) hs).squeeze S512x2048 squeezes_S1x512x2048_S512x2048 = oSlot (Mlp.hs (k.val - 1)) := slotF_congr _ (off37_eq k) _ _ _ _

/-! The last copy out, waited for after the loop. -/
@[sl_canon] theorem oSem_e (hh) : (cc0_scoped9.slice (Rect.unit (s := S2) (k0_off38 (wOw 64)) S1.size hh)).squeeze S_ squeezes_S1_S_ = oSem 1 := sem_congr _ off38_end _ _
@[sl_canon] theorem oBlk_e (hh hs) : oM.slice (Rect.unit (s := S8192x2048) (k0_off39 (wCol 64) (wRow 64)) S512x2048.size hh) hs = oBlk 15 := Memref.slice_unit_congr _ off39_end _ _ _ (fun _ => rfl)
@[sl_canon] theorem oSlot_e (hh hs) : (oB.slice (Rect.unit (s := S2x512x2048) (k0_off40 (wOw 64)) S1x512x2048.size hh) hs).squeeze S512x2048 squeezes_S1x512x2048_S512x2048 = oSlot 1 := slotF_congr _ off40_end _ _ _ _

end Canon

end Cert.Proof.Mlp
-- ==== Proof.State.lean ====
/-
  What the core holds at each point of the pipeline: the pieces of memory by name, the values they carry, and the
  states before a trip — at a row block's first tile (its rows on their way in, the previous block's result on its
  way out), at a later tile (the rows in their slot, the normalised rows in the scratch, the partial sum in the
  result's slot) and after the last trip.
-/
module

public import proofs.«01_k».proof.Proof.Names

@[expose] public section

noncomputable section

namespace Cert.Proof.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The pipeline library's resources beside the counters the kernel's own transfers use. -/
abbrev UU : Type := UR sig nD τ × Counters
local notation "𝕄" => MT nD τ sig Unit (Elt F) ℕ UU ℕ
abbrev EP : Emb (UR sig nD τ) (MT nD τ sig Unit (Elt F) ℕ UU ℕ) := embL
abbrev 𝒱₀ : Variants := Variants.none

/-- The contents of a whole buffer, by its memref, on core `c`. -/
abbrev Cont (F : FTy → Type) (c : Dev nD) {sp : Space} {s : Shape} {e : EltTy} (M : Memref sig .tc sp s e) : Type :=
  Buf (Elt F) (M.view.loc (c : Thread nD τ))

/-! ## The values -/

section Values
variable (c : Dev nD) (XH : Cont F c hM) (XP : Cont F c pM) (XQ : Cont F c qM) (XG : Cont F c gM) (XE : Cont F c eM)

/-- Row block `b` of `h`, the tiles of the two weights, the two gains: what the arrays hold. -/
abbrev hX (b : Fin 16) : S512x2048.Idx → Elt F .f32 := (hBlk b).view.read (Elt F) XH
abbrev pX (b : Fin 4) : S2048x2048.Idx → Elt F .bf16 := (pBlk b).view.read (Elt F) XP
abbrev qX (b : Fin 4) : S2048x2048.Idx → Elt F .bf16 := (qBlk b).view.read (Elt F) XQ
abbrev gX : S1x2048.Idx → Elt F .f32 := gM.view.read (Elt F) XG
abbrev eX : S1x2048.Idx → Elt F .f32 := eM.view.read (Elt F) XE

omit [FloatOps F] in
theorem casts_lift : S512x2048.ShapeCasts S1x512x2048 := by decide
omit [FloatOps F] in
theorem casts_liftW : S2048x2048.ShapeCasts S1x2048x2048 := by decide
/-- A block as a load of its slot through the two-slot buffer gives it: behind one more axis. -/
abbrev lift (x : S512x2048.Idx → Elt F .f32) : S1x512x2048.Idx → Elt F .f32 := shapeCast S1x512x2048 x casts_lift
abbrev liftW (x : S2048x2048.Idx → Elt F .bf16) : S1x2048x2048.Idx → Elt F .bf16 := shapeCast S1x2048x2048 x casts_liftW

/-- The normalised rows of block `b`. -/
def uV (b : Fin 16) : S512x2048.Idx → Elt F .bf16 := k0_pay3 (lift (hX c XH b)) (gX c XG)
/-- Block `b`'s partial result after tile `f`. -/
def acc (b : Fin 16) : Nat → S1x512x2048.Idx → Elt F .f32
  | 0 => k0_pay4 (lift (hX c XH b)) (gX c XG) (liftW (pX c XP 0)) (liftW (qX c XQ 0))
  | f + 1 => k0_pay5 (acc b f) (uV c XH XG b) (liftW (pX c XP (tl (f + 1)))) (liftW (qX c XQ (tl (f + 1))))
/-- Block `b`'s result. -/
def outV (b : Fin 16) : S1x512x2048.Idx → Elt F .f32 :=
  k0_pay6 (acc c XH XP XQ XG b 2) (uV c XH XG b) (liftW (pX c XP 3)) (liftW (qX c XQ 3)) (eX c XE)

end Values

/-- What a whole transfer leaves at its destination. -/
abbrev landed (c : Dev nD) {sp sp' : Space} {s : Shape} {e : EltTy} (src : Memref sig .tc sp s e) (dst : Memref sig .tc sp' s e)
    (X : Cont F c src) (f : Cont F c dst) : Cont F c dst :=
  dst.view.writes (Elt F) f [⟨Rect.whole s, ReadAs.same.apply (src.view.read (Elt F) X)⟩]

/-! ## Slots read and written through their buffer -/

section Slots

/-- A reshaped slice read behind its dropped axis is the slice read. -/
theorem cast_read {sp : Space} {s s' : Shape} {e : EltTy} (v : View sig .tc sp s e) (r : Rect s) (hn : s'.numel = r.shape.numel)
    (h : s'.ShapeCasts r.shape) (f : v.ty.Contents (Elt F)) :
    shapeCast r.shape (((v.slice r).reshape s' hn).read (Elt F) f) h = (v.slice r).read (Elt F) f := by
  funext j
  show (v.slice r).read (Elt F) f (Shape.reshapeEquiv hn (Shape.reshapeEquiv h j)) = _
  rw [Shape.reshapeEquiv_reshapeEquiv, Shape.reshapeEquiv_self]

theorem h_load (s : Fin 2) {off : Fin 3 → Nat} (e : off = slotOff s) (hh) (f) :
    hB.view.readAt (Elt F) (Rect.unit (s := S2x512x2048) off S1x512x2048.size hh).toLoadRect f = lift ((hSlot s).view.read (Elt F) f) := by
  subst e; exact (cast_read hB.view _ _ _ f).symm
theorem o_load (s : Fin 2) {off : Fin 3 → Nat} (e : off = slotOff s) (hh) (f) :
    oB.view.readAt (Elt F) (Rect.unit (s := S2x512x2048) off S1x512x2048.size hh).toLoadRect f = lift ((oSlot s).view.read (Elt F) f) := by
  subst e; exact (cast_read oB.view _ _ _ f).symm
theorem p_load (s : Fin 2) {off : Fin 3 → Nat} (e : off = slotOff s) (hh) (f) :
    pB.view.readAt (Elt F) (Rect.unit (s := S2x2048x2048) off S1x2048x2048.size hh).toLoadRect f = liftW ((pSlot s).view.read (Elt F) f) := by
  subst e; exact (cast_read pB.view _ _ _ f).symm
theorem q_load (s : Fin 2) {off : Fin 3 → Nat} (e : off = slotOff s) (hh) (f) :
    qB.view.readAt (Elt F) (Rect.unit (s := S2x2048x2048) off S1x2048x2048.size hh).toLoadRect f = liftW ((qSlot s).view.read (Elt F) f) := by
  subst e; exact (cast_read qB.view _ _ _ f).symm
/-- What a store into a slot of the result's buffer leaves there. -/
theorem o_store (s : Fin 2) {off : Fin 3 → Nat} (e : off = slotOff s) (hh) (f) (w : S1x512x2048.Idx → Elt F .f32) :
    lift ((oSlot s).view.read (Elt F) ((oB.access (Rect.unit (s := S2x512x2048) off S1x512x2048.size hh)).write (Elt F) f w Finset.univ)) = w := by
  subst e; exact (cast_read oB.view _ _ _ _).trans (View.read_write_univ (v := oB.access (Rect.unit (s := S2x512x2048) (slotOff s) S1x512x2048.size hh)) f w)

theorem u_load (hh) (f) :
    uB.view.readAt (Elt F) (Rect.unit (s := S512x2048) ![0, 0] S512x2048.size hh).toLoadRect f = uB.view.read (Elt F) f :=
  View.readAt_full uB.view f hh
theorem g_load (hh) (f) :
    gB.view.readAt (Elt F) (Rect.unit (s := S1x2048) ![0, 0] S1x2048.size hh).toLoadRect f = gB.view.read (Elt F) f :=
  View.readAt_full gB.view f hh
theorem e_load (hh) (f) :
    eB.view.readAt (Elt F) (Rect.unit (s := S1x2048) ![0, 0] S1x2048.size hh).toLoadRect f = eB.view.read (Elt F) f :=
  View.readAt_full eB.view f hh
/-- A store of a view's own sizes leaves what was stored. -/
theorem store_full {sp : Space} {s : Shape} {e : EltTy} (v : View sig .tc sp s e) {off : Fin s.rank → Nat} (hh : ∀ a, off a + s.size a ≤ s.size a)
    (f : v.ty.Contents (Elt F)) (w : s.Idx → Elt F e) : v.read (Elt F) ((v.slice (Rect.unit off s.size hh)).write (Elt F) f w Finset.univ) = w :=
  (View.readAt_full v _ hh).symm.trans (View.read_write_univ (v := v.slice (Rect.unit off s.size hh)) f w)
/-- What the store of the normalised rows leaves in the scratch. -/
theorem u_store (hh) (f) (w : S512x2048.Idx → Elt F .bf16) :
    uB.view.read (Elt F) ((uB.access (Rect.unit (s := S512x2048) ![0, 0] S512x2048.size hh)).write (Elt F) f w Finset.univ) = w :=
  store_full uB.view hh f w
/-- What is loaded of a weight's slot after its tile landed. -/
theorem p_tile (c : Dev nD) (XP : Cont F c pM) (s : Fin 2) (b : Fin 4) {off : Fin 3 → Nat} (e : off = slotOff s) (hh) (f) :
    pB.view.readAt (Elt F) (Rect.unit (s := S2x2048x2048) off S1x2048x2048.size hh).toLoadRect (landed c (pBlk b) (pSlot s) XP f) = liftW (pX c XP b) :=
  (p_load s e hh _).trans (congrArg _ (View.read_writes_whole _ _ _))
theorem q_tile (c : Dev nD) (XQ : Cont F c qM) (s : Fin 2) (b : Fin 4) {off : Fin 3 → Nat} (e : off = slotOff s) (hh) (f) :
    qB.view.readAt (Elt F) (Rect.unit (s := S2x2048x2048) off S1x2048x2048.size hh).toLoadRect (landed c (qBlk b) (qSlot s) XQ f) = liftW (qX c XQ b) :=
  (q_load s e hh _).trans (congrArg _ (View.read_writes_whole _ _ _))
theorem h_rows (c : Dev nD) (XH : Cont F c hM) (s : Fin 2) (b : Fin 16) {off : Fin 3 → Nat} (e : off = slotOff s) (hh) (f) :
    hB.view.readAt (Elt F) (Rect.unit (s := S2x512x2048) off S1x512x2048.size hh).toLoadRect (landed c (hBlk b) (hSlot s) XH f) = lift (hX c XH b) :=
  (h_load s e hh _).trans (congrArg _ (View.read_writes_whole _ _ _))
/-- What a whole transfer leaves at its destination reads as what it brought. -/
theorem landed_read {sp sp' : Space} {s : Shape} {e : EltTy} (c : Dev nD) (src : Memref sig .tc sp s e) (dst : Memref sig .tc sp' s e) (X : Cont F c src)
    (f : Cont F c dst) : dst.view.read (Elt F) (landed c src dst X f) = src.view.read (Elt F) X := View.read_writes_whole _ _ _

end Slots

/-! ## The pieces -/

section Pieces
variable (c : Dev nD) (XH : Cont F c hM) (XP : Cont F c pM) (XQ : Cont F c qM) (XG : Cont F c gM) (XE : Cont F c eM)

/-- A memref's own elements at `f`. -/
abbrev own {sp : Space} {s : Shape} {e : EltTy} (M : Memref sig .tc sp s e) (f : Cont F c M) : sProp 𝕄 :=
  M.view.loc (c : Thread nD τ) ↦[M.view.set]{fullShare} f
/-- A memref's elements at anything. -/
abbrev any {sp : Space} {s : Shape} {e : EltTy} (M : Memref sig .tc sp s e) : sProp 𝕄 := iprop(∃ f, own (F := F) c M f)
/-- A semaphore at zero. -/
abbrev cell (A : DmaSems sig S_) : sProp 𝕄 := semVal ((c : Thread nD τ), SemLoc.dma A.sem) 0

/-- A transfer in flight on its semaphore, at its amount. -/
abbrev fly {sp sp' : Space} {s : Shape} {e : EltTy} (A : DmaSems sig S_) (N : ℕ) (src : Memref sig .tc sp s e) (dst : Memref sig .tc sp' s e)
    (X : Cont F c src) (f : Cont F c dst) : sProp 𝕄 :=
  Transfers.Flight countersEmb (c : Thread nD τ) (SemLoc.dma A.sem) () N iprop(own c dst (landed c src dst X f) ∗ own c src X)

abbrev hHome (b : Fin 16) : sProp 𝕄 := own c (hBlk b) XH
abbrev pHome (b : Fin 4) : sProp 𝕄 := own c (pBlk b) XP
abbrev qHome (b : Fin 4) : sProp 𝕄 := own c (qBlk b) XQ
/-- Row block `b` of the result, finished. -/
abbrev oDone (b : Fin 16) : sProp 𝕄 :=
  iprop(∃ f, own c (oBlk b) f ∗ ⌜lift ((oBlk b).view.read (Elt F) f) = outV c XH XP XQ XG XE b⌝)

/-- The slot a trip's row block does not use. -/
abbrev hs' (n : Nat) : Fin 2 := Ring.sl 2 (n / 4 + 1)

/-- The weights' rings before trip `n`: tile `n` of each in flight, the other slot free. -/
def wts (n : Nat) : sProp 𝕄 := iprop(
  (∃ f, fly c (pSem (ws n)) 262144 (pBlk (tl n)) (pSlot (ws n)) XP f) ∗ any c (pSlot (ws (n + 1))) ∗ cell c (pSem (ws (n + 1)))
  ∗ bigSep (Finset.univ.erase (tl n)) (pHome c XP)
  ∗ (∃ f, fly c (qSem (ws n)) 262144 (qBlk (tl n)) (qSlot (ws n)) XQ f) ∗ any c (qSlot (ws (n + 1))) ∗ cell c (qSem (ws (n + 1)))
  ∗ bigSep (Finset.univ.erase (tl n)) (qHome c XQ))
/-- The weights' rings when nothing is in flight. -/
def wtsIdle : sProp 𝕄 := iprop(
  any c (pSlot 0) ∗ any c (pSlot 1) ∗ cell c (pSem 0) ∗ cell c (pSem 1) ∗ bigSep Finset.univ (pHome c XP)
  ∗ any c (qSlot 0) ∗ any c (qSlot 1) ∗ cell c (qSem 0) ∗ cell c (qSem 1) ∗ bigSep Finset.univ (qHome c XQ))

/-- The two gains' copies and what the core owes. -/
def gains : sProp 𝕄 := iprop((∃ f, own c gB f ∗ ⌜gB.view.read (Elt F) f = gX c XG⌝) ∗ (∃ f, own c eB f ∗ ⌜eB.view.read (Elt F) f = eX c XE⌝)
  ∗ ∃ W, owes (c : Thread nD τ) 0 W)

/-- The result's blocks before `m`, finished; the blocks from `m` on, at anything. -/
abbrev doneTo (m : Nat) : sProp 𝕄 := bigSep (Finset.univ.filter fun b : Fin 16 => b.val < m) (oDone c XH XP XQ XG XE)
abbrev todoFrom (m : Nat) : sProp 𝕄 := bigSep (Finset.univ.filter fun b : Fin 16 => m ≤ b.val) fun b => any c (oBlk b)

/-- Before a row block's first tile: its rows in flight. -/
def rowsIn (n : Nat) : sProp 𝕄 := iprop(
  (∃ f, fly c (hSem (hs n)) 131072 (hBlk (rb n)) (hSlot (hs n)) XH f) ∗ any c (hSlot (hs' n)) ∗ cell c (hSem (hs' n))
  ∗ bigSep (Finset.univ.erase (rb n)) (hHome c XH) ∗ any c uB)
/-- The result's ring before the first trip: nothing in flight. -/
def outNone : sProp 𝕄 := iprop(any c (oSlot 0) ∗ any c (oSlot 1) ∗ cell c (oSem 0) ∗ cell c (oSem 1) ∗ todoFrom c 0)
/-- The result's ring before a later row block's first tile: the previous block on its way out. -/
def outFly (n : Nat) : sProp 𝕄 := iprop(
  any c (oSlot (hs n)) ∗ cell c (oSem (hs n))
  ∗ (∃ g, ∃ f, fly c (oSem (hs (n - 1))) 131072 (oSlot (hs (n - 1))) (oBlk (rb (n - 1))) g f
      ∗ ⌜lift ((oSlot (hs (n - 1))).view.read (Elt F) g) = outV c XH XP XQ XG XE (rb (n - 1))⌝)
  ∗ doneTo c XH XP XQ XG XE ((n - 1) / 4) ∗ todoFrom c (n / 4))
/-- Within a row block: the rows in their slot, the normalised rows in the scratch, the partial result in its slot. -/
def within (n : Nat) : sProp 𝕄 := iprop(
  (∃ f, own c (hSlot (hs n)) f) ∗ any c (hSlot (hs' n)) ∗ cell c (hSem (hs n)) ∗ cell c (hSem (hs' n)) ∗ bigSep Finset.univ (hHome c XH)
  ∗ (∃ f, own c uB f ∗ ⌜uB.view.read (Elt F) f = uV c XH XG (rb n)⌝)
  ∗ (∃ f, own c (oSlot (hs n)) f ∗ ⌜lift ((oSlot (hs n)).view.read (Elt F) f) = acc c XH XP XQ XG (rb n) (n % 4 - 1)⌝)
  ∗ any c (oSlot (hs' n)) ∗ cell c (oSem (hs n)) ∗ cell c (oSem (hs' n))
  ∗ doneTo c XH XP XQ XG XE (n / 4) ∗ todoFrom c (n / 4))

/-- The rows' ring and the scratch when the pipeline is over. -/
def rowsIdle : sProp 𝕄 := iprop(
  any c (hSlot 0) ∗ any c (hSlot 1) ∗ cell c (hSem 0) ∗ cell c (hSem 1) ∗ bigSep Finset.univ (hHome c XH) ∗ any c uB)
/-- The result's ring when the pipeline is over: the last block on its way out. -/
def outLast : sProp 𝕄 := iprop(
  any c (oSlot 0) ∗ cell c (oSem 0)
  ∗ (∃ g, ∃ f, fly c (oSem 1) 131072 (oSlot 1) (oBlk 15) g f ∗ ⌜lift ((oSlot 1).view.read (Elt F) g) = outV c XH XP XQ XG XE 15⌝)
  ∗ doneTo c XH XP XQ XG XE 15)

/-- What the core holds before trip `n`. -/
def state (n : Nat) : sProp 𝕄 :=
  if n = 0 then iprop(wts c XP XQ 0 ∗ gains c XG XE ∗ rowsIn c XH 0 ∗ outNone c)
  else if n = 64 then iprop(wtsIdle c XP XQ ∗ gains c XG XE ∗ rowsIdle c XH ∗ outLast c XH XP XQ XG XE)
  else if n % 4 = 0 then iprop(wts c XP XQ n ∗ gains c XG XE ∗ rowsIn c XH n ∗ outFly c XH XP XQ XG XE n)
  else iprop(wts c XP XQ n ∗ gains c XG XE ∗ within c XH XP XQ XG XE n)

end Pieces

/-! ## A trip's program -/

section Body
variable (w₁ w₂ w₃ w₄ w₅ w₆ w₇ w₈ w₉ w₁₀ w₁₁ w₁₂ : BitVec 32)

/-- The region of trip `k` at the carried words in closed form (the words before the loop are not read). -/
abbrev tripG (k : Trip) : Prog (TpuEff nD τ sig (Elt F) Λ₀ .tc) (BitVec 32 × BitVec 32 × BitVec 32 × BitVec 32 × BitVec 32 × BitVec 32
    × BitVec 32 × BitVec 32 × BitVec 32 × BitVec 32 × BitVec 32 × BitVec 32) :=
  k0_t1_body (F := F) hM (Memref.isWhole_whole _) gM (Memref.isWhole_whole _) pM (Memref.isWhole_whole _) qM (Memref.isWhole_whole _)
    eM (Memref.isWhole_whole _) oM (Memref.isWhole_whole _) uB (Memref.isWhole_whole _) hB (Memref.isWhole_whole _) cc0_scoped1
    gB (Memref.isWhole_whole _) pB (Memref.isWhole_whole _) cc0_scoped4 qB (Memref.isWhole_whole _) cc0_scoped6 eB (Memref.isWhole_whole _)
    oB (Memref.isWhole_whole _) cc0_scoped9 cc0_scoped10 cc0_scoped11 w₁ w₂ w₃ w₄ w₅ w₆ w₇ w₈ w₉ w₁₀ w₁₁ w₁₂ k (words k.val)

end Body

/-! ## Homes -/

section Homes
omit [FloatOps F]

/-- One block apart from a family, and one back. -/
theorem apart {n : Nat} (A : Finset (Fin n)) (b : Fin n) (hb : b ∈ A) (Φ : Fin n → sProp 𝕄) :
    bigSep A Φ = iprop(Φ b ∗ bigSep (A.erase b) Φ) := by
  conv_lhs => rw [← Finset.insert_erase hb, bigSep_insert (Finset.notMem_erase b A)]
  rfl

end Homes

/-! ## Numbers -/

theorem tl_ne (n : Nat) : tl (n + 1) ≠ tl n := by
  intro h; have := congrArg Fin.val h; simp only [tl, Ring.sl] at this; simp at this; omega
theorem ws_two (n : Nat) : ws (n + 1 + 1) = ws n := by apply Fin.ext; simp [ws, Ring.sl]; omega
theorem hs_same {n : Nat} (h : n % 4 ≠ 3) : hs (n + 1) = hs n := by simp only [hs]; rw [show (n + 1) / 4 = n / 4 by omega]
theorem hs'_same {n : Nat} (h : n % 4 ≠ 3) : hs' (n + 1) = hs' n := by simp only [hs']; rw [show (n + 1) / 4 = n / 4 by omega]
theorem rb_same {n : Nat} (h : n % 4 ≠ 3) : rb (n + 1) = rb n := by simp only [rb]; rw [show (n + 1) / 4 = n / 4 by omega]
theorem tl_mod (n : Nat) : tl (n % 4) = tl n := by apply Fin.ext; simp [tl, Ring.sl]

theorem pay3_congr {h h' : S1x512x2048.Idx → Elt F .f32} {g g' : S1x2048.Idx → Elt F .f32} (e₁ : h = h') (e₂ : g = g') :
    k0_pay3 (F := F) h g = k0_pay3 h' g' := by subst e₁ e₂; rfl
theorem pay4_congr {h h' : S1x512x2048.Idx → Elt F .f32} {g g' : S1x2048.Idx → Elt F .f32} {p p' q q' : S1x2048x2048.Idx → Elt F .bf16}
    (e₁ : h = h') (e₂ : g = g') (e₃ : p = p') (e₄ : q = q') : k0_pay4 (F := F) h g p q = k0_pay4 h' g' p' q' := by subst e₁ e₂ e₃ e₄; rfl
theorem pay5_congr {a a' : S1x512x2048.Idx → Elt F .f32} {u u' : S512x2048.Idx → Elt F .bf16} {p p' q q' : S1x2048x2048.Idx → Elt F .bf16}
    (e₁ : a = a') (e₂ : u = u') (e₃ : p = p') (e₄ : q = q') : k0_pay5 (F := F) a u p q = k0_pay5 a' u' p' q' := by subst e₁ e₂ e₃ e₄; rfl
theorem pay6_congr {a a' : S1x512x2048.Idx → Elt F .f32} {u u' : S512x2048.Idx → Elt F .bf16} {p p' q q' : S1x2048x2048.Idx → Elt F .bf16}
    {e e' : S1x2048.Idx → Elt F .f32} (e₁ : a = a') (e₂ : u = u') (e₃ : p = p') (e₄ : q = q') (e₅ : e = e') :
    k0_pay6 (F := F) a u p q e = k0_pay6 a' u' p' q' e' := by subst e₁ e₂ e₃ e₄ e₅; rfl

/-- Where the weights stand after a trip that issued the next tile. -/
theorem wts_next (c : Dev nD) (XP : Cont F c pM) (XQ : Cont F c qM) (n : Nat) :
    iprop((∃ f, fly c (pSem (ws (n + 1))) 262144 (pBlk (tl (n + 1))) (pSlot (ws (n + 1))) XP f) ∗ any c (pSlot (ws n)) ∗ cell c (pSem (ws n))
      ∗ pHome c XP (tl n) ∗ bigSep ((Finset.univ.erase (tl n)).erase (tl (n + 1))) (pHome c XP)
      ∗ (∃ f, fly c (qSem (ws (n + 1))) 262144 (qBlk (tl (n + 1))) (qSlot (ws (n + 1))) XQ f) ∗ any c (qSlot (ws n)) ∗ cell c (qSem (ws n))
      ∗ qHome c XQ (tl n) ∗ bigSep ((Finset.univ.erase (tl n)).erase (tl (n + 1))) (qHome c XQ)) ⊢ wts c XP XQ (n + 1) := by
  unfold wts
  rw [ws_two, apart (Finset.univ.erase (tl (n + 1))) (tl n) (Finset.mem_erase.2 ⟨(tl_ne n).symm, Finset.mem_univ _⟩) (pHome c XP),
    apart (Finset.univ.erase (tl (n + 1))) (tl n) (Finset.mem_erase.2 ⟨(tl_ne n).symm, Finset.mem_univ _⟩) (qHome c XQ),
    Finset.erase_right_comm (a := tl (n + 1))]
  iintro ⟨H1, H2, H3, H4, H5, H6, H7, H8, H9, H10⟩
  isplitl [H1]
  · iexact H1
  isplitl [H2]
  · iexact H2
  isplitl [H3]
  · iexact H3
  isplitl [H4 H5]
  · isplitl [H4]
    · iexact H4
    iexact H5
  isplitl [H6]
  · iexact H6
  isplitl [H7]
  · iexact H7
  isplitl [H8]
  · iexact H8
  isplitl [H9]
  · iexact H9
  iexact H10

/-- The idle rings of the weights, by the slots of the last trip. -/
theorem wtsIdle_at (c : Dev nD) (XP : Cont F c pM) (XQ : Cont F c qM) (n : Nat) (h : n = 63) :
    wtsIdle c XP XQ = iprop(
      any c (pSlot (ws (n + 1))) ∗ any c (pSlot (ws n)) ∗ cell c (pSem (ws (n + 1))) ∗ cell c (pSem (ws n))
      ∗ (pHome c XP (tl n) ∗ bigSep (Finset.univ.erase (tl n)) (pHome c XP))
      ∗ any c (qSlot (ws (n + 1))) ∗ any c (qSlot (ws n)) ∗ cell c (qSem (ws (n + 1))) ∗ cell c (qSem (ws n))
      ∗ (qHome c XQ (tl n) ∗ bigSep (Finset.univ.erase (tl n)) (qHome c XQ))) := by
  rw [← apart Finset.univ (tl n) (Finset.mem_univ _) (pHome c XP), ← apart Finset.univ (tl n) (Finset.mem_univ _) (qHome c XQ)]
  subst h
  rfl

theorem gains_intro (c : Dev nD) (XG : Cont F c gM) (XE : Cont F c eM) (fg fe W) (eg : gB.view.read (Elt F) fg = gX c XG) (ee : eB.view.read (Elt F) fe = eX c XE) :
    iprop(own c gB fg ∗ own c eB fe ∗ owes (c : Thread nD τ) 0 W) ⊢ (gains c XG XE : sProp 𝕄) := by
  unfold gains
  iintro ⟨HG, HE, HW⟩
  isplitl [HG]
  · iexists fg
    isplitl [HG]
    · iexact HG
    ipureintro
    exact eg
  isplitl [HE]
  · iexists fe
    isplitl [HE]
    · iexact HE
    ipureintro
    exact ee
  iexists W
  iexact HW

theorem within_intro (c : Dev nD) (XH : Cont F c hM) (XP : Cont F c pM) (XQ : Cont F c qM) (XG : Cont F c gM) (XE : Cont F c eM) (n : Nat) (fh fu fo)
    (eu : uB.view.read (Elt F) fu = uV c XH XG (rb n)) (eo : lift ((oSlot (hs n)).view.read (Elt F) fo) = acc c XH XP XQ XG (rb n) (n % 4 - 1)) :
    iprop(own c (hSlot (hs n)) fh ∗ any c (hSlot (hs' n)) ∗ cell c (hSem (hs n)) ∗ cell c (hSem (hs' n)) ∗ bigSep Finset.univ (hHome c XH)
      ∗ own c uB fu ∗ own c (oSlot (hs n)) fo ∗ any c (oSlot (hs' n)) ∗ cell c (oSem (hs n)) ∗ cell c (oSem (hs' n))
      ∗ doneTo c XH XP XQ XG XE (n / 4) ∗ todoFrom c (n / 4)) ⊢ within c XH XP XQ XG XE n := by
  unfold within
  iintro ⟨H1, H2, H3, H4, H5, H6, H7, H8⟩
  isplitl [H1]
  · iexists fh
    iexact H1
  isplitl [H2]
  · iexact H2
  isplitl [H3]
  · iexact H3
  isplitl [H4]
  · iexact H4
  isplitl [H5]
  · iexact H5
  isplitl [H6]
  · iexists fu
    isplitl [H6]
    · iexact H6
    ipureintro
    exact eu
  isplitl [H7]
  · iexists fo
    isplitl [H7]
    · iexact H7
    ipureintro
    exact eo
  iexact H8

theorem hs_prev {n : Nat} (h0 : n % 4 = 0) (hn : n ≠ 0) : hs (n - 1) = hs' n := by
  apply Fin.ext; simp [hs, hs', Ring.sl]; omega
theorem hs_next {n : Nat} (h3 : n % 4 = 3) : hs (n + 1) = hs' n := by simp only [hs, hs']; rw [show (n + 1) / 4 = n / 4 + 1 by omega]
theorem hs'_next {n : Nat} (h3 : n % 4 = 3) : hs' (n + 1) = hs n := by
  apply Fin.ext; simp [hs, hs', Ring.sl]; omega
theorem rb_val {n : Nat} (h : n < 64) : (rb n).val = n / 4 := by simp [rb, Ring.bk]; omega
theorem rb_ne {n : Nat} (h3 : n % 4 = 3) (h : n < 63) : rb (n + 1) ≠ rb n := by
  intro e; have := congrArg Fin.val e; rw [rb_val (by omega), rb_val (by omega)] at this; omega

/-- One more block finished. -/
theorem done_succ (c : Dev nD) (XH : Cont F c hM) (XP : Cont F c pM) (XQ : Cont F c qM) (XG : Cont F c gM) (XE : Cont F c eM) (b : Fin 16) :
    doneTo c XH XP XQ XG XE (b.val + 1) = iprop(oDone c XH XP XQ XG XE b ∗ doneTo c XH XP XQ XG XE b.val) := by
  rw [doneTo, apart _ b (by simp)]
  congr 2
  ext x; simp [Fin.ext_iff]; omega
/-- One block fewer to go. -/
theorem todo_pred (c : Dev nD) (b : Fin 16) :
    (todoFrom c b.val : sProp 𝕄) = iprop(any c (oBlk b) ∗ todoFrom c (b.val + 1)) := by
  rw [todoFrom, apart _ b (by simp)]
  congr 2
  ext x; simp [Fin.ext_iff]; omega

end Cert.Proof.Mlp
-- ==== Proof.Values.lean ====
/- The kernel's payloads at the extended reals, read at an index. -/
module

public import proofs.«01_k».proof.Proof.State
public import proofs.«01_k».proof.Proof.Gen.KernelIdeal.Frame
public import proofs.«01_k».proof.Proof.Gen.ReferenceIdeal.Read
public import Idealize.ShloMosaic.Lib.Pointwise

@[expose] public section

set_option maxRecDepth 16384

noncomputable section

namespace Cert.Proof.Mlp

open Cert.KernelIdeal Cert.KernelIdeal.Gen
open Idealize.ShloMosaic Idealize.ShloMosaic.TcCoe

/-- One row normalised by its root mean square and scaled by the gains. -/
def rms (x g : Fin 2048 → EReal) (j : Fin 2048) : EReal :=
  x j * Ideal.rsqrt (Ideal.div (∑ k, x k * x k) (Ideal.ofBits .f32 0x45000000#32) + Ideal.ofBits .f32 0x358637BD#32) * g j

/-- One hidden unit: the positive part of a row's product with a column, squared. -/
def unit (u w : Fin 2048 → EReal) : EReal := max (∑ k, u k * w k) 0 * max (∑ k, u k * w k) 0

theorem pay3_at (h : FVec Ideal S512x2048 .f32) (g : FVec Ideal S1x2048 .f32) (i : Fin 512) (j : Fin 2048) {H G : Fin 2048 → EReal}
    (hh : ∀ k, h (ix2 i k) = H k) (hg : ∀ k, g (ix2 0 k) = G k) : k0_pay3 (F := Ideal) (lift h) g (ix2 i j) = rms H G j := by
  pointwise [k0_pay3, k0_pay2, k0_pay1, lift]
  simp only [hh, hg]
  rfl

theorem pay4_at (h : FVec Ideal S512x2048 .f32) (g : FVec Ideal S1x2048 .f32) (p q : FVec Ideal S2048x2048 .bf16) (i : Fin 512) (j : Fin 2048)
    {H G : Fin 2048 → EReal} {P Q : Fin 2048 → Fin 2048 → EReal} (hh : ∀ k, h (ix2 i k) = H k) (hg : ∀ k, g (ix2 0 k) = G k)
    (hp : ∀ k l, p (ix2 k l) = P k l) (hq : ∀ l n, q (ix2 l n) = Q l n) :
    k0_pay4 (F := Ideal) (lift h) g (liftW p) (liftW q) (ix3 0 i j) = H j + ∑ l, unit (rms H G) (fun k => P k l) * Q l j := by
  pointwise [k0_pay4, k0_pay2, k0_pay1, lift, liftW]
  simp only [hh, hg, hp, hq]
  rfl

theorem pay5_at (a : FVec Ideal S1x512x2048 .f32) (u : FVec Ideal S512x2048 .bf16) (p q : FVec Ideal S2048x2048 .bf16) (i : Fin 512) (j : Fin 2048)
    {A U : Fin 2048 → EReal} {P Q : Fin 2048 → Fin 2048 → EReal} (ha : ∀ n, a (ix3 0 i n) = A n) (hu : ∀ k, u (ix2 i k) = U k)
    (hp : ∀ k l, p (ix2 k l) = P k l) (hq : ∀ l n, q (ix2 l n) = Q l n) :
    k0_pay5 (F := Ideal) a u (liftW p) (liftW q) (ix3 0 i j) = A j + ∑ l, unit U (fun k => P k l) * Q l j := by
  pointwise [k0_pay5, liftW]
  simp only [ha, hu, hp, hq]
  rfl

theorem pay6_at (a : FVec Ideal S1x512x2048 .f32) (u : FVec Ideal S512x2048 .bf16) (p q : FVec Ideal S2048x2048 .bf16) (e : FVec Ideal S1x2048 .f32)
    (i : Fin 512) (j : Fin 2048) {A U E : Fin 2048 → EReal} {P Q : Fin 2048 → Fin 2048 → EReal} (ha : ∀ n, a (ix3 0 i n) = A n)
    (hu : ∀ k, u (ix2 i k) = U k) (hp : ∀ k l, p (ix2 k l) = P k l) (hq : ∀ l n, q (ix2 l n) = Q l n) (he : ∀ k, e (ix2 0 k) = E k) :
    k0_pay6 (F := Ideal) a u (liftW p) (liftW q) e (ix3 0 i j) = rms (fun n => A n + ∑ l, unit U (fun k => P k l) * Q l n) E j := by
  pointwise [k0_pay6, liftW]
  simp only [ha, hu, hp, hq, he]
  rfl

/-- One row through the layer: the hidden units of the normalised row, projected back and added to the row. -/
def mlpRow (x g : Fin 2048 → EReal) (w1 : Fin 2048 → Fin 8192 → EReal) (w2 : Fin 8192 → Fin 2048 → EReal) (n : Fin 2048) : EReal :=
  x n + ∑ l : Fin 8192, unit (rms x g) (fun k => w1 k l) * w2 l n

/-- The result's row: that, normalised by the last gains. -/
def outRow (x g e : Fin 2048 → EReal) (w1 : Fin 2048 → Fin 8192 → EReal) (w2 : Fin 8192 → Fin 2048 → EReal) : Fin 2048 → EReal :=
  rms (mlpRow x g w1 w2) e

/-- Unit `l` of tile `t` among all the hidden units. -/
def hid (t : Fin 4) (l : Fin 2048) : Fin 8192 := ⟨2048 * t.val + l.val, by omega⟩

/-- A sum over the hidden units is the sum of the four tiles' sums. -/
theorem sum_tiles (f : Fin 8192 → EReal) :
    ∑ l, f l = (∑ l, f (hid 0 l)) + (∑ l, f (hid 1 l)) + (∑ l, f (hid 2 l)) + ∑ l, f (hid 3 l) := by
  rw [← (finProdFinEquiv (m := 4) (n := 2048)).sum_comp f, Fintype.sum_prod_type, Fin.sum_univ_four]
  have e : ∀ t : Fin 4, ∑ y, f (finProdFinEquiv (t, y)) = ∑ l, f (hid t l) := fun t =>
    Finset.sum_congr rfl fun l _ => congrArg f (Fin.ext (Nat.add_comm _ _))
  rw [e, e, e, e]

/-- Row `r` of the `8192` rows, in the batch it lies in. -/
abbrev bat (r : Fin 8192) : Fin 2 := ⟨r.val / 4096, by omega⟩
abbrev pos (r : Fin 8192) : Fin 4096 := ⟨r.val % 4096, by omega⟩

open Cert.ReferenceIdeal.Read in
theorem reference_apply (h : FVec Ideal S2x4096x2048 .f32) (g : FVec Ideal S1x2048 .f32) (w1 : FVec Ideal S1x2048x8192 .f32)
    (w2 : FVec Ideal S1x8192x2048 .f32) (e : FVec Ideal S2048 .f32) (r : Fin 8192) (j : Fin 2048) :
    val_main_v34 (F := Ideal) h g w1 w2 e (ix2 r j)
      = outRow (fun k => h (ix3 (bat r) (pos r) k)) (fun k => g (ix2 0 k)) (fun k => e (ix1 k)) (fun k l => w1 (ix3 0 k l)) (fun l n => w2 (ix3 0 l n)) j := by
  pointwise [val_main_v34, val_main_v33, val_main_v32, val_main_v31, val_main_v30, val_main_v29, val_main_v28, val_main_v27, val_main_v26, val_main_cst_4, val_main_v25, val_main_v24, val_main_cst_3, val_main_v23, val_main_v22, val_main_cst_2, val_main_v21, val_main_v20, val_main_v19, val_main_v18, val_main_v17, val_main_v16, val_main_call0_v0, val_main_call0_cst, val_main_v15, val_main_v14, val_main_v13, val_main_v12, val_main_v11, val_main_v10, val_main_v9, val_main_v8, val_main_v7, val_main_v6, val_main_cst_1, val_main_v5, val_main_v4, val_main_cst_0, val_main_v3, val_main_v2, val_main_cst, val_main_v1, val_main_v0]
  rfl

end Cert.Proof.Mlp

end
-- ==== Proof.Trips.lean ====
/-
  The pipeline's trips: what each does to what the core holds, by where it stands in its row block.
-/
module

public import proofs.«01_k».proof.Proof.State

@[expose] public section

noncomputable section

namespace Cert.Proof.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

section
variable (c : Dev nD) (XH : Cont F c hM) (XP : Cont F c pM) (XQ : Cont F c qM) (XG : Cont F c gM) (XE : Cont F c eM)
variable (w₁ w₂ w₃ w₄ w₅ w₆ w₇ w₈ w₉ w₁₀ w₁₁ w₁₂ : BitVec 32)

/-- A trip in the middle of a row block: one more tile added to the partial result. -/
theorem trip_mid (k : Trip) (h0 : k.val % 4 ≠ 0) (h3 : k.val % 4 ≠ 3) :
    iprop(wts c XP XQ k.val ∗ gains c XG XE ∗ within c XH XP XQ XG XE k.val)
      ⊢ wp frame (wpE (defs₀ (F := F)) 𝒱₀ (c : Thread nD τ) none) Set.univ (tripG w₁ w₂ w₃ w₄ w₅ w₆ w₇ w₈ w₉ w₁₀ w₁₁ w₁₂ k)
        (fun r => iprop(⌜r = words (k.val + 1)⌝ ∗ wts c XP XQ (k.val + 1) ∗ gains c XG XE ∗ within c XH XP XQ XG XE (k.val + 1))) := by
  have hk := trip_lt k
  have h63 : k.val < 63 := by omega
  have hchk := chk1_all k
  have c1 : ¬ k0_cond1 k (wRow k.val) (wCol k.val) = 1#1 := by rw [cond1_iff]; omega
  have c2 : k0_cond2 k (wCol k.val) = 1#1 := (cond2_iff k).2 h63
  have c3 : k0_cond3 k (wCol k.val) = 1#1 := (cond3_iff k).2 h63
  have c4 : ¬ k0_cond4 k (wRow k.val) (wCol k.val) = 1#1 := by rw [cond4_iff]; omega
  have c5 := cond5_true k
  have c6 := cond6_true k
  have c8 : ¬ k0_cond8 (wCol k.val) = 1#1 := by rw [cond8_iff]; omega
  have c9 : k0_cond9 (wCol k.val) = 1#1 := (cond9_iff k).2 ⟨h0, h3⟩
  have c10 : ¬ k0_cond10 (wCol k.val) = 1#1 := by rw [cond10_iff]; omega
  have c14 : ¬ k0_cond14 k (wRow k.val) (wCol k.val) = 1#1 := by rw [cond14_iff]; omega
  have c18 : ¬ k0_cond18 k (wRow k.val) (wCol k.val) = 1#1 := by rw [cond18_iff]; omega
  have hw := within_intro c XH XP XQ XG XE (k.val + 1)
  rw [hs_same h3, hs'_same h3, rb_same h3, show (k.val + 1) / 4 = k.val / 4 by omega] at hw
  conv => lhs; unfold gains within
  conv => lhs; unfold wts
  rw [apart (Finset.univ.erase (tl k.val)) (tl (k.val + 1)) (Finset.mem_erase.2 ⟨tl_ne _, Finset.mem_univ _⟩) (pHome c XP),
    apart (Finset.univ.erase (tl k.val)) (tl (k.val + 1)) (Finset.mem_erase.2 ⟨tl_ne _, Finset.mem_univ _⟩) (qHome c XQ)]
  iintro ⟨⟨⟨%fp, HP⟩, ⟨%fp', HP'⟩, HcP, ⟨HpB, HpR⟩, ⟨%fq, HQ⟩, ⟨%fq', HQ'⟩, HcQ, ⟨HqB, HqR⟩⟩, ⟨⟨%fg, HG, %eg⟩, ⟨%fe, HE, %ee⟩, ⟨%W, HW⟩⟩, ⟨⟨%fh, HH⟩, HH', Hch, Hch', HhR, ⟨%fu, HU, %eu⟩, ⟨%fo, HO, %eo⟩, HO', Hco, Hco', Hdone, Htodo⟩⟩
  dsimp only [tripG]
  sl_unfold [k0_t1_body]
  sl_exec
  sl_step
  isplitr
  · ipureintro
    clear * -
    simp only [words, Prod.mk.injEq]
    revert k
    decide +kernel
  isplitl [HcP HP_dst HP HP_src HpR HcQ HQ_dst HQ HQ_src HqR]
  · iapply (wts_next c XP XQ k.val)
    isplitl [HcP]
    · iexists fp'
      iexact HcP
    isplitl [HP_dst]
    · iexists _
      iexact HP_dst
    isplitl [HP]
    · iexact HP
    isplitl [HP_src]
    · iexact HP_src
    isplitl [HpR]
    · iexact HpR
    isplitl [HcQ]
    · iexists fq'
      iexact HcQ
    isplitl [HQ_dst]
    · iexists _
      iexact HQ_dst
    isplitl [HQ]
    · iexact HQ
    isplitl [HQ_src]
    · iexact HQ_src
    iexact HqR
  isplitl [HG HE HW]
  · iapply (gains_intro c XG XE fg fe _ eg ee)
    isplitl [HG]
    · iexact HG
    isplitl [HE]
    · iexact HE
    iexact HW
  iapply (hw fh fu _ eu ?eo)
  rotate_left
  isplitl [HH]
  · iexact HH
  isplitl [HH']
  · iexact HH'
  isplitl [Hch]
  · iexact Hch
  isplitl [Hch']
  · iexact Hch'
  isplitl [HhR]
  · iexact HhR
  isplitl [HU]
  · iexact HU
  isplitl [HO]
  · iexact HO
  isplitl [HO']
  · iexact HO'
  isplitl [Hco]
  · iexact Hco
  isplitl [Hco']
  · iexact Hco'
  isplitl [Hdone]
  · iexact Hdone
  iexact Htodo
  case eo =>
    sl_open_run
    refine (o_store _ (off26_eq k) _ _ _).trans (Eq.trans (pay5_congr ((o_load _ (off26_eq k) _ _).trans eo) ((u_load _ _).trans eu)
      (p_tile c XP _ (tl k.val) (off27_eq k) _ _) (q_tile c XQ _ (tl k.val) (off28_eq k) _ _)) ?_)
    rw [show (k.val + 1) % 4 - 1 = k.val % 4 - 1 + 1 by omega]
    show _ = k0_pay5 _ _ _ _
    rw [show k.val % 4 - 1 + 1 = k.val % 4 by omega, tl_mod]

set_option maxHeartbeats 1000000 in
/-- The first trip: the rows arrive and are normalised, the first tile opens the partial result. -/
theorem trip_zero (k : Trip) (hz : k.val = 0) :
    iprop(wts c XP XQ k.val ∗ gains c XG XE ∗ rowsIn c XH k.val ∗ outNone c)
      ⊢ wp frame (wpE (defs₀ (F := F)) 𝒱₀ (c : Thread nD τ) none) Set.univ (tripG w₁ w₂ w₃ w₄ w₅ w₆ w₇ w₈ w₉ w₁₀ w₁₁ w₁₂ k)
        (fun r => iprop(⌜r = words (k.val + 1)⌝ ∗ wts c XP XQ (k.val + 1) ∗ gains c XG XE ∗ within c XH XP XQ XG XE (k.val + 1))) := by
  have hk := trip_lt k
  have h0 : k.val % 4 = 0 := by omega
  have h3 : k.val % 4 ≠ 3 := by omega
  have h63 : k.val < 63 := by omega
  have hchk := chk1_all k
  have c1 : ¬ k0_cond1 k (wRow k.val) (wCol k.val) = 1#1 := by rw [cond1_iff]; omega
  have c2 : k0_cond2 k (wCol k.val) = 1#1 := (cond2_iff k).2 h63
  have c3 : k0_cond3 k (wCol k.val) = 1#1 := (cond3_iff k).2 h63
  have c4 : k0_cond4 k (wRow k.val) (wCol k.val) = 1#1 := (cond4_iff k).2 h0
  have c5 := cond5_true k
  have c6 := cond6_true k
  have c8 : k0_cond8 (wCol k.val) = 1#1 := (cond8_iff k).2 h0
  have c9 : ¬ k0_cond9 (wCol k.val) = 1#1 := by rw [cond9_iff]; omega
  have c10 : ¬ k0_cond10 (wCol k.val) = 1#1 := by rw [cond10_iff]; omega
  have c14 : ¬ k0_cond14 k (wRow k.val) (wCol k.val) = 1#1 := by rw [cond14_iff]; omega
  have c18 : ¬ k0_cond18 k (wRow k.val) (wCol k.val) = 1#1 := by rw [cond18_iff]; omega
  have hw := within_intro c XH XP XQ XG XE (k.val + 1)
  rw [hs_same h3, hs'_same h3, rb_same h3, show (k.val + 1) / 4 = k.val / 4 by omega] at hw
  rw [apart Finset.univ (rb k.val) (Finset.mem_univ _) (hHome c XH), show k.val / 4 = 0 by omega] at hw
  conv => lhs; unfold gains rowsIn outNone
  rw [show oSlot 0 = oSlot (hs k.val) by rw [hz]; rfl, show oSlot 1 = oSlot (hs' k.val) by rw [hz]; rfl,
    show oSem 0 = oSem (hs k.val) by rw [hz]; rfl, show oSem 1 = oSem (hs' k.val) by rw [hz]; rfl]
  conv => lhs; unfold wts
  rw [apart (Finset.univ.erase (tl k.val)) (tl (k.val + 1)) (Finset.mem_erase.2 ⟨tl_ne _, Finset.mem_univ _⟩) (pHome c XP),
    apart (Finset.univ.erase (tl k.val)) (tl (k.val + 1)) (Finset.mem_erase.2 ⟨tl_ne _, Finset.mem_univ _⟩) (qHome c XQ)]
  iintro ⟨⟨⟨%fp, HP⟩, ⟨%fp', HP'⟩, HcP, ⟨HpB, HpR⟩, ⟨%fq, HQ⟩, ⟨%fq', HQ'⟩, HcQ, ⟨HqB, HqR⟩⟩, ⟨⟨%fg, HG, %eg⟩, ⟨%fe, HE, %ee⟩, ⟨%W, HW⟩⟩, ⟨⟨%fh, HH⟩, HH', Hch', HhR, ⟨%fu, HU⟩⟩, ⟨⟨%fo, HO⟩, HO', Hco, Hco', Htodo⟩⟩
  dsimp only [tripG]
  sl_unfold [k0_t1_body]
  sl_exec
  sl_step
  isplitr
  · ipureintro
    clear * -
    simp only [words, Prod.mk.injEq]
    revert k
    decide +kernel
  isplitl [HcP HP_dst HP HP_src HpR HcQ HQ_dst HQ HQ_src HqR]
  · iapply (wts_next c XP XQ k.val)
    isplitl [HcP]
    · iexists fp'
      iexact HcP
    isplitl [HP_dst]
    · iexists _
      iexact HP_dst
    isplitl [HP]
    · iexact HP
    isplitl [HP_src]
    · iexact HP_src
    isplitl [HpR]
    · iexact HpR
    isplitl [HcQ]
    · iexists fq'
      iexact HcQ
    isplitl [HQ_dst]
    · iexists _
      iexact HQ_dst
    isplitl [HQ]
    · iexact HQ
    isplitl [HQ_src]
    · iexact HQ_src
    iexact HqR
  isplitl [HG HE HW]
  · iapply (gains_intro c XG XE fg fe _ eg ee)
    isplitl [HG]
    · iexact HG
    isplitl [HE]
    · iexact HE
    iexact HW
  iapply (hw _ _ _ ?eu ?eo)
  rotate_left 2
  isplitl [HH_dst]
  · iexact HH_dst
  isplitl [HH']
  · iexact HH'
  isplitl [HH]
  · iexact HH
  isplitl [Hch']
  · iexact Hch'
  isplitl [HH_src HhR]
  · isplitl [HH_src]
    · iexact HH_src
    iexact HhR
  isplitl [HU]
  · iexact HU
  isplitl [HO]
  · iexact HO
  isplitl [HO']
  · iexact HO'
  isplitl [Hco]
  · iexact Hco
  isplitl [Hco']
  · iexact Hco'
  isplitr
  · rw [show doneTo c XH XP XQ XG XE 0 = (iprop(emp) : sProp 𝕄) by simp [doneTo]; rfl]
    iempintro
  iexact Htodo
  case eu =>
    refine Eq.trans (View.read_writes_full uB.view _ _ _ _) (by
      sl_open_run
      exact pay3_congr (h_rows c XH _ (rb k.val) (off22_eq k) _ _) ((g_load _ _).trans eg))
  case eo =>
    sl_open_run
    rw [show (k.val + 1) % 4 - 1 = 0 by omega]
    refine (o_store _ (off25_eq k) _ _ _).trans (Eq.trans (pay4_congr (h_rows c XH _ (rb k.val) (off22_eq k) _ _) ((g_load _ _).trans eg)
      (p_tile c XP _ (tl k.val) (off23_eq k) _ _) (q_tile c XQ _ (tl k.val) (off24_eq k) _ _)) ?_)
    rw [← tl_mod k.val, h0]
    rfl

set_option maxHeartbeats 1000000 in
/-- The first trip of a later row block: besides, the previous block's result has left. -/
theorem trip_first (k : Trip) (h0 : k.val % 4 = 0) (hn : k.val ≠ 0) :
    iprop(wts c XP XQ k.val ∗ gains c XG XE ∗ rowsIn c XH k.val ∗ outFly c XH XP XQ XG XE k.val)
      ⊢ wp frame (wpE (defs₀ (F := F)) 𝒱₀ (c : Thread nD τ) none) Set.univ (tripG w₁ w₂ w₃ w₄ w₅ w₆ w₇ w₈ w₉ w₁₀ w₁₁ w₁₂ k)
        (fun r => iprop(⌜r = words (k.val + 1)⌝ ∗ wts c XP XQ (k.val + 1) ∗ gains c XG XE ∗ within c XH XP XQ XG XE (k.val + 1))) := by
  have hk := trip_lt k
  have h3 : k.val % 4 ≠ 3 := by omega
  have h63 : k.val < 63 := by omega
  have hchk := chk1_all k
  have c1 : ¬ k0_cond1 k (wRow k.val) (wCol k.val) = 1#1 := by rw [cond1_iff]; omega
  have c2 : k0_cond2 k (wCol k.val) = 1#1 := (cond2_iff k).2 h63
  have c3 : k0_cond3 k (wCol k.val) = 1#1 := (cond3_iff k).2 h63
  have c4 : k0_cond4 k (wRow k.val) (wCol k.val) = 1#1 := (cond4_iff k).2 h0
  have c5 := cond5_true k
  have c6 := cond6_true k
  have c8 : k0_cond8 (wCol k.val) = 1#1 := (cond8_iff k).2 h0
  have c9 : ¬ k0_cond9 (wCol k.val) = 1#1 := by rw [cond9_iff]; omega
  have c10 : ¬ k0_cond10 (wCol k.val) = 1#1 := by rw [cond10_iff]; omega
  have c14 : ¬ k0_cond14 k (wRow k.val) (wCol k.val) = 1#1 := by rw [cond14_iff]; omega
  have c18 : k0_cond18 k (wRow k.val) (wCol k.val) = 1#1 := (cond18_iff k).2 ⟨h0, hn⟩
  have hw := within_intro c XH XP XQ XG XE (k.val + 1)
  rw [hs_same h3, hs'_same h3, rb_same h3, show (k.val + 1) / 4 = k.val / 4 by omega] at hw
  have hd := done_succ c XH XP XQ XG XE (rb (k.val - 1))
  rw [rb_val (by omega), show (k.val - 1) / 4 + 1 = k.val / 4 by omega] at hd
  rw [apart Finset.univ (rb k.val) (Finset.mem_univ _) (hHome c XH), hd, ← hs_prev h0 hn] at hw
  conv => lhs; unfold gains rowsIn outFly
  rw [← hs_prev h0 hn]
  conv => lhs; unfold wts
  rw [apart (Finset.univ.erase (tl k.val)) (tl (k.val + 1)) (Finset.mem_erase.2 ⟨tl_ne _, Finset.mem_univ _⟩) (pHome c XP),
    apart (Finset.univ.erase (tl k.val)) (tl (k.val + 1)) (Finset.mem_erase.2 ⟨tl_ne _, Finset.mem_univ _⟩) (qHome c XQ)]
  iintro ⟨⟨⟨%fp, HP⟩, ⟨%fp', HP'⟩, HcP, ⟨HpB, HpR⟩, ⟨%fq, HQ⟩, ⟨%fq', HQ'⟩, HcQ, ⟨HqB, HqR⟩⟩, ⟨⟨%fg, HG, %eg⟩, ⟨%fe, HE, %ee⟩, ⟨%W, HW⟩⟩, ⟨⟨%fh, HH⟩, HH', Hch', HhR, ⟨%fu, HU⟩⟩, ⟨⟨%fo, HO⟩, Hco, ⟨%g, %fb, HF, %eF⟩, Hdone, Htodo⟩⟩
  dsimp only [tripG]
  sl_unfold [k0_t1_body]
  sl_exec
  sl_step
  isplitr
  · ipureintro
    clear * -
    simp only [words, Prod.mk.injEq]
    revert k
    decide +kernel
  isplitl [HcP HP_dst HP HP_src HpR HcQ HQ_dst HQ HQ_src HqR]
  · iapply (wts_next c XP XQ k.val)
    isplitl [HcP]
    · iexists fp'
      iexact HcP
    isplitl [HP_dst]
    · iexists _
      iexact HP_dst
    isplitl [HP]
    · iexact HP
    isplitl [HP_src]
    · iexact HP_src
    isplitl [HpR]
    · iexact HpR
    isplitl [HcQ]
    · iexists fq'
      iexact HcQ
    isplitl [HQ_dst]
    · iexists _
      iexact HQ_dst
    isplitl [HQ]
    · iexact HQ
    isplitl [HQ_src]
    · iexact HQ_src
    iexact HqR
  isplitl [HG HE HW]
  · iapply (gains_intro c XG XE fg fe _ eg ee)
    isplitl [HG]
    · iexact HG
    isplitl [HE]
    · iexact HE
    iexact HW
  iapply (hw _ _ _ ?eu ?eo)
  rotate_left 2
  isplitl [HH_dst]
  · iexact HH_dst
  isplitl [HH']
  · iexact HH'
  isplitl [HH]
  · iexact HH
  isplitl [Hch']
  · iexact Hch'
  isplitl [HH_src HhR]
  · isplitl [HH_src]
    · iexact HH_src
    iexact HhR
  isplitl [HU]
  · iexact HU
  isplitl [HO]
  · iexact HO
  isplitl [HF_src]
  · iexists g
    iexact HF_src
  isplitl [Hco]
  · iexact Hco
  isplitl [HF]
  · iexact HF
  isplitl [HF_dst Hdone]
  · isplitl [HF_dst]
    · iexists _
      isplitl [HF_dst]
      · iexact HF_dst
      ipureintro
      exact (congrArg lift (View.read_writes_whole _ _ _)).trans eF
    iexact Hdone
  iexact Htodo
  case eu =>
    refine Eq.trans (View.read_writes_full uB.view _ _ _ _) (by
      sl_open_run
      exact pay3_congr (h_rows c XH _ (rb k.val) (off22_eq k) _ _) ((g_load _ _).trans eg))
  case eo =>
    sl_open_run
    rw [show (k.val + 1) % 4 - 1 = 0 by omega]
    refine (o_store _ (off25_eq k) _ _ _).trans (Eq.trans (pay4_congr (h_rows c XH _ (rb k.val) (off22_eq k) _ _) ((g_load _ _).trans eg)
      (p_tile c XP _ (tl k.val) (off23_eq k) _ _) (q_tile c XQ _ (tl k.val) (off24_eq k) _ _)) ?_)
    rw [← tl_mod k.val, h0]
    rfl

set_option maxHeartbeats 1000000 in
/-- The last trip of a row block: the next block's rows are sent for, the block's result is finished and on its way. -/
theorem trip_last (k : Trip) (h3 : k.val % 4 = 3) (h63 : k.val < 63) :
    iprop(wts c XP XQ k.val ∗ gains c XG XE ∗ within c XH XP XQ XG XE k.val)
      ⊢ wp frame (wpE (defs₀ (F := F)) 𝒱₀ (c : Thread nD τ) none) Set.univ (tripG w₁ w₂ w₃ w₄ w₅ w₆ w₇ w₈ w₉ w₁₀ w₁₁ w₁₂ k)
        (fun r => iprop(⌜r = words (k.val + 1)⌝ ∗ wts c XP XQ (k.val + 1) ∗ gains c XG XE ∗ rowsIn c XH (k.val + 1) ∗ outFly c XH XP XQ XG XE (k.val + 1))) := by
  have hk := trip_lt k
  have hchk := chk1_all k
  have c1 : k0_cond1 k (wRow k.val) (wCol k.val) = 1#1 := (cond1_iff k).2 ⟨h3, h63⟩
  have c2 : k0_cond2 k (wCol k.val) = 1#1 := (cond2_iff k).2 h63
  have c3 : k0_cond3 k (wCol k.val) = 1#1 := (cond3_iff k).2 h63
  have c4 : ¬ k0_cond4 k (wRow k.val) (wCol k.val) = 1#1 := by rw [cond4_iff]; omega
  have c5 := cond5_true k
  have c6 := cond6_true k
  have c8 : ¬ k0_cond8 (wCol k.val) = 1#1 := by rw [cond8_iff]; omega
  have c9 : ¬ k0_cond9 (wCol k.val) = 1#1 := by rw [cond9_iff]; omega
  have c10 : k0_cond10 (wCol k.val) = 1#1 := (cond10_iff k).2 h3
  have c14 : k0_cond14 k (wRow k.val) (wCol k.val) = 1#1 := (cond14_iff k).2 h3
  have c18 : ¬ k0_cond18 k (wRow k.val) (wCol k.val) = 1#1 := by rw [cond18_iff]; omega
  have ht := todo_pred (F := F) c (rb k.val)
  rw [rb_val hk] at ht
  conv => lhs; unfold gains within
  rw [apart Finset.univ (rb (k.val + 1)) (Finset.mem_univ _) (hHome c XH), ht, ← hs_next h3]
  conv => lhs; unfold wts
  rw [apart (Finset.univ.erase (tl k.val)) (tl (k.val + 1)) (Finset.mem_erase.2 ⟨tl_ne _, Finset.mem_univ _⟩) (pHome c XP),
    apart (Finset.univ.erase (tl k.val)) (tl (k.val + 1)) (Finset.mem_erase.2 ⟨tl_ne _, Finset.mem_univ _⟩) (qHome c XQ)]
  iintro ⟨⟨⟨%fp, HP⟩, ⟨%fp', HP'⟩, HcP, ⟨HpB, HpR⟩, ⟨%fq, HQ⟩, ⟨%fq', HQ'⟩, HcQ, ⟨HqB, HqR⟩⟩, ⟨⟨%fg, HG, %eg⟩, ⟨%fe, HE, %ee⟩, ⟨%W, HW⟩⟩, ⟨⟨%fh, HH⟩, ⟨%fh', HH'⟩, Hch, Hch', ⟨HhB, HhR⟩, ⟨%fu, HU, %eu⟩, ⟨%fo, HO, %eo⟩, HO', Hco, Hco', Hdone, ⟨%fb, HB⟩, Htodo⟩⟩
  dsimp only [tripG]
  sl_unfold [k0_t1_body]
  sl_exec
  sl_step
  isplitr
  · ipureintro
    clear * -
    simp only [words, Prod.mk.injEq]
    revert k
    decide +kernel
  isplitl [HcP HP_dst HP HP_src HpR HcQ HQ_dst HQ HQ_src HqR]
  · iapply (wts_next c XP XQ k.val)
    isplitl [HcP]
    · iexists fp'
      iexact HcP
    isplitl [HP_dst]
    · iexists _
      iexact HP_dst
    isplitl [HP]
    · iexact HP
    isplitl [HP_src]
    · iexact HP_src
    isplitl [HpR]
    · iexact HpR
    isplitl [HcQ]
    · iexists fq'
      iexact HcQ
    isplitl [HQ_dst]
    · iexists _
      iexact HQ_dst
    isplitl [HQ]
    · iexact HQ
    isplitl [HQ_src]
    · iexact HQ_src
    iexact HqR
  isplitl [HG HE HW]
  · iapply (gains_intro c XG XE fg fe _ eg ee)
    isplitl [HG]
    · iexact HG
    isplitl [HE]
    · iexact HE
    iexact HW
  unfold rowsIn outFly
  rw [hs'_next h3, Nat.add_sub_cancel, show (k.val + 1) / 4 = k.val / 4 + 1 by omega]
  isplitl [Hch' HH Hch HhR HU]
  · isplitl [Hch']
    · iexists fh'
      iexact Hch'
    isplitl [HH]
    · iexists fh
      iexact HH
    isplitl [Hch]
    · iexact Hch
    isplitl [HhR]
    · iexact HhR
    iexists fu
    iexact HU
  isplitl [HO']
  · iexact HO'
  isplitl [Hco']
  · iexact Hco'
  isplitl [Hco]
  · iexists _
    iexists fb
    isplitl [Hco]
    · iexact Hco
    ipureintro
    exact (by
        sl_open_run
        refine (o_store _ (off29_eq k) _ _ _).trans ?_
        have e2 : k.val % 4 - 1 = 2 := by omega
        have et : tl k.val = 3 := by rw [← tl_mod, h3]; rfl
        refine Eq.trans (pay6_congr ((o_load _ (off29_eq k) _ _).trans eo) ((u_load _ _).trans eu)
          (p_tile c XP _ (tl k.val) (off30_eq k) _ _) (q_tile c XQ _ (tl k.val) (off31_eq k) _ _) ((e_load _ _).trans ee)) ?_
        rw [e2, et]
        rfl)
  isplitl [Hdone]
  · iexact Hdone
  iexact Htodo

set_option maxHeartbeats 1000000 in
/-- The last trip of all. -/
theorem trip_end (k : Trip) (hl : k.val = 63) :
    iprop(wts c XP XQ k.val ∗ gains c XG XE ∗ within c XH XP XQ XG XE k.val)
      ⊢ wp frame (wpE (defs₀ (F := F)) 𝒱₀ (c : Thread nD τ) none) Set.univ (tripG w₁ w₂ w₃ w₄ w₅ w₆ w₇ w₈ w₉ w₁₀ w₁₁ w₁₂ k)
        (fun r => iprop(⌜r = words (k.val + 1)⌝ ∗ wtsIdle c XP XQ ∗ gains c XG XE ∗ rowsIdle c XH ∗ outLast c XH XP XQ XG XE)) := by
  have hk := trip_lt k
  have h3 : k.val % 4 = 3 := by omega
  have hchk := chk1_all k
  have c1 : ¬ k0_cond1 k (wRow k.val) (wCol k.val) = 1#1 := by rw [cond1_iff]; omega
  have c2 : ¬ k0_cond2 k (wCol k.val) = 1#1 := by rw [cond2_iff]; omega
  have c3 : ¬ k0_cond3 k (wCol k.val) = 1#1 := by rw [cond3_iff]; omega
  have c4 : ¬ k0_cond4 k (wRow k.val) (wCol k.val) = 1#1 := by rw [cond4_iff]; omega
  have c5 := cond5_true k
  have c6 := cond6_true k
  have c8 : ¬ k0_cond8 (wCol k.val) = 1#1 := by rw [cond8_iff]; omega
  have c9 : ¬ k0_cond9 (wCol k.val) = 1#1 := by rw [cond9_iff]; omega
  have c10 : k0_cond10 (wCol k.val) = 1#1 := (cond10_iff k).2 h3
  have c14 : k0_cond14 k (wRow k.val) (wCol k.val) = 1#1 := (cond14_iff k).2 h3
  have c18 : ¬ k0_cond18 k (wRow k.val) (wCol k.val) = 1#1 := by rw [cond18_iff]; omega
  have er : rb k.val = 15 := by apply Fin.ext; rw [rb_val hk]; omega
  have ht := todo_pred (F := F) c (rb k.val)
  rw [rb_val hk] at ht
  have e1 : hs k.val = 1 := by rw [hl]; rfl
  have e0 : hs' k.val = 0 := by rw [hl]; rfl
  conv => lhs; unfold gains within wts
  rw [ht]
  iintro ⟨⟨⟨%fp, HP⟩, ⟨%fp', HP'⟩, HcP, HpR, ⟨%fq, HQ⟩, ⟨%fq', HQ'⟩, HcQ, HqR⟩, ⟨⟨%fg, HG, %eg⟩, ⟨%fe, HE, %ee⟩, ⟨%W, HW⟩⟩, ⟨⟨%fh, HH⟩, HH', Hch, Hch', HhR, ⟨%fu, HU, %eu⟩, ⟨%fo, HO, %eo⟩, HO', Hco, Hco', Hdone, ⟨%fb, HB⟩, Htodo⟩⟩
  dsimp only [tripG]
  sl_unfold [k0_t1_body]
  sl_exec
  sl_step
  isplitr
  · ipureintro
    clear * -
    simp only [words, Prod.mk.injEq]
    revert k
    decide +kernel
  rw [wtsIdle_at c XP XQ k.val hl]
  unfold rowsIdle outLast
  rw [← e1, ← e0, ← er, show (15 : Nat) = k.val / 4 by omega]
  isplitl [HP' HP_dst HcP HP HP_src HpR HQ' HQ_dst HcQ HQ HQ_src HqR]
  · isplitl [HP']
    · iexists fp'
      iexact HP'
    isplitl [HP_dst]
    · iexists _
      iexact HP_dst
    isplitl [HcP]
    · iexact HcP
    isplitl [HP]
    · iexact HP
    isplitl [HP_src HpR]
    · isplitl [HP_src]
      · iexact HP_src
      iexact HpR
    isplitl [HQ']
    · iexists fq'
      iexact HQ'
    isplitl [HQ_dst]
    · iexists _
      iexact HQ_dst
    isplitl [HcQ]
    · iexact HcQ
    isplitl [HQ]
    · iexact HQ
    isplitl [HQ_src]
    · iexact HQ_src
    iexact HqR
  isplitl [HG HE HW]
  · iapply (gains_intro c XG XE fg fe _ eg ee)
    isplitl [HG]
    · iexact HG
    isplitl [HE]
    · iexact HE
    iexact HW
  isplitl [HH' HH Hch' Hch HhR HU]
  · isplitl [HH']
    · iexact HH'
    isplitl [HH]
    · iexists fh
      iexact HH
    isplitl [Hch']
    · iexact Hch'
    isplitl [Hch]
    · iexact Hch
    isplitl [HhR]
    · iexact HhR
    iexists fu
    iexact HU
  isplitl [HO']
  · iexact HO'
  isplitl [Hco']
  · iexact Hco'
  isplitl [Hco]
  · iexists _
    iexists fb
    isplitl [Hco]
    · iexact Hco
    ipureintro
    exact (by
        sl_open_run
        refine (o_store _ (off29_eq k) _ _ _).trans ?_
        have e2 : k.val % 4 - 1 = 2 := by omega
        have et : tl k.val = 3 := by rw [← tl_mod, h3]; rfl
        refine Eq.trans (pay6_congr ((o_load _ (off29_eq k) _ _).trans eo) ((u_load _ _).trans eu)
          (p_tile c XP _ (tl k.val) (off30_eq k) _ _) (q_tile c XQ _ (tl k.val) (off31_eq k) _ _) ((e_load _ _).trans ee)) ?_
        rw [e2, et]
        rfl)
  iexact Hdone

end

end Cert.Proof.Mlp
-- ==== Proof.Body.lean ====
/-
  The kernel's body: the gains copied in, the first rows and tiles sent for, the pipeline's trips, the last block waited for.
-/
module

public import proofs.«01_k».proof.Proof.Trips

@[expose] public section

noncomputable section

namespace Cert.Proof.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

section
variable (c : Dev nD) (XH : Cont F c hM) (XP : Cont F c pM) (XQ : Cont F c qM) (XG : Cont F c gM) (XE : Cont F c eM)

theorem state_zero : state c XH XP XQ XG XE 0 = iprop(wts c XP XQ 0 ∗ gains c XG XE ∗ rowsIn c XH 0 ∗ outNone c) := if_pos rfl
theorem state_last : state c XH XP XQ XG XE 64 = iprop(wtsIdle c XP XQ ∗ gains c XG XE ∗ rowsIdle c XH ∗ outLast c XH XP XQ XG XE) :=
  (if_neg (by decide)).trans (if_pos rfl)
theorem state_row {n : Nat} (h0 : n % 4 = 0) (hz : n ≠ 0) (hl : n ≠ 64) :
    state c XH XP XQ XG XE n = iprop(wts c XP XQ n ∗ gains c XG XE ∗ rowsIn c XH n ∗ outFly c XH XP XQ XG XE n) :=
  (if_neg hz).trans ((if_neg hl).trans (if_pos h0))
theorem state_in {n : Nat} (h0 : n % 4 ≠ 0) :
    state c XH XP XQ XG XE n = iprop(wts c XP XQ n ∗ gains c XG XE ∗ within c XH XP XQ XG XE n) :=
  (if_neg (by rintro rfl; exact h0 rfl)).trans ((if_neg (by rintro rfl; exact h0 rfl)).trans (if_neg h0))

theorem words_zero : (1#32, 0#32, 0#32, 1#32, 0#32, 1#32, 0#32, 0#32, 0#32, 0#32, 0#32, 0#32) = words 0 := by
  simp only [words, Prod.mk.injEq]
  decide

/-- One trip, wherever it stands. -/
theorem trip (w₁ w₂ w₃ w₄ w₅ w₆ w₇ w₈ w₉ w₁₀ w₁₁ w₁₂ : BitVec 32) (k : Trip) :
    state c XH XP XQ XG XE k.val
      ⊢ wp frame (wpE (defs₀ (F := F)) 𝒱₀ (c : Thread nD τ) none) Set.univ (tripG w₁ w₂ w₃ w₄ w₅ w₆ w₇ w₈ w₉ w₁₀ w₁₁ w₁₂ k)
        (fun r => iprop(⌜r = words (k.val + 1)⌝ ∗ state c XH XP XQ XG XE (k.val + 1))) := by
  have hk := trip_lt k
  by_cases hz : k.val = 0
  · rw [hz, state_zero, state_in c XH XP XQ XG XE (n := 0 + 1) (by omega)]
    have h := trip_zero c XH XP XQ XG XE w₁ w₂ w₃ w₄ w₅ w₆ w₇ w₈ w₉ w₁₀ w₁₁ w₁₂ k hz
    rw [hz] at h
    exact h
  by_cases h0 : k.val % 4 = 0
  · rw [state_row c XH XP XQ XG XE h0 hz (by omega), state_in c XH XP XQ XG XE (n := k.val + 1) (by omega)]
    exact trip_first c XH XP XQ XG XE w₁ w₂ w₃ w₄ w₅ w₆ w₇ w₈ w₉ w₁₀ w₁₁ w₁₂ k h0 hz
  rw [state_in c XH XP XQ XG XE h0]
  by_cases h3 : k.val % 4 = 3
  · by_cases hl : k.val = 63
    · rw [show state c XH XP XQ XG XE (k.val + 1) = state c XH XP XQ XG XE 64 by rw [hl], state_last]
      exact trip_end c XH XP XQ XG XE w₁ w₂ w₃ w₄ w₅ w₆ w₇ w₈ w₉ w₁₀ w₁₁ w₁₂ k hl
    · rw [state_row c XH XP XQ XG XE (n := k.val + 1) (by omega) (by omega) (by omega)]
      exact trip_last c XH XP XQ XG XE w₁ w₂ w₃ w₄ w₅ w₆ w₇ w₈ w₉ w₁₀ w₁₁ w₁₂ k h3 (by omega)
  · rw [state_in c XH XP XQ XG XE (n := k.val + 1) (by omega)]
    exact trip_mid c XH XP XQ XG XE w₁ w₂ w₃ w₄ w₅ w₆ w₇ w₈ w₉ w₁₀ w₁₁ w₁₂ k h0 h3

/-- The body on its operands. -/
abbrev bodyG : Prog (TpuEff nD τ sig (Elt F) Λ₀ .tc) PUnit :=
  cc0_mlp (F := F) hM (Memref.isWhole_whole _) gM (Memref.isWhole_whole _) pM (Memref.isWhole_whole _) qM (Memref.isWhole_whole _)
    eM (Memref.isWhole_whole _) oM (Memref.isWhole_whole _) uB (Memref.isWhole_whole _) hB (Memref.isWhole_whole _) cc0_scoped1
    gB (Memref.isWhole_whole _) pB (Memref.isWhole_whole _) cc0_scoped4 qB (Memref.isWhole_whole _) cc0_scoped6 eB (Memref.isWhole_whole _)
    oB (Memref.isWhole_whole _) cc0_scoped9 cc0_scoped10 cc0_scoped11

/-- The rings of the result and their cells, idle. -/
def outIdle : sProp 𝕄 := iprop(any c (oSlot 0) ∗ any c (oSlot 1) ∗ cell c (oSem 0) ∗ cell c (oSem 1))
/-- The gains home, their copies at anything, the cells of their transfers. -/
def gainsIdle : sProp 𝕄 := iprop(own c gM XG ∗ own c eM XE ∗ any c gB ∗ any c eB ∗ cell (F := F) c cc0_scoped10 ∗ cell (F := F) c cc0_scoped11)

/-- What the body is handed. -/
def pre : sProp 𝕄 := iprop(wtsIdle c XP XQ ∗ rowsIdle c XH ∗ gainsIdle c XG XE ∗ outIdle c ∗ todoFrom c 0)
/-- What it hands back: the same, the result's blocks finished. -/
def post : sProp 𝕄 := iprop(wtsIdle c XP XQ ∗ rowsIdle c XH ∗ gainsIdle c XG XE ∗ outIdle c ∗ bigSep Finset.univ (oDone c XH XP XQ XG XE))

set_option maxHeartbeats 4000000 in
theorem bodyRun (W : Waits sig Unit) (Q : PUnit → sProp 𝕄) :
    iprop(pre c XH XP XQ XG XE ∗ owes (c : Thread nD τ) 0 W ∗ ((post c XH XP XQ XG XE ∗ ∃ W', owes (c : Thread nD τ) 0 W') -∗ Q ⟨⟩))
      ⊢ wp frame (wpE (defs₀ (F := F)) 𝒱₀ (c : Thread nD τ) none) Set.univ (bodyG (F := F)) Q := by
  unfold pre wtsIdle rowsIdle gainsIdle outIdle
  rw [apart Finset.univ 0 (Finset.mem_univ _) (pHome c XP), apart Finset.univ 0 (Finset.mem_univ _) (qHome c XQ), apart Finset.univ 0 (Finset.mem_univ _) (hHome c XH)]
  iintro ⟨⟨⟨⟨%fp, HP⟩, HP', HcP, HcP', ⟨HpB, HpR⟩, ⟨%fq, HQ⟩, HQ', HcQ, HcQ', ⟨HqB, HqR⟩⟩, ⟨⟨%fh, HH⟩, HH', Hch, Hch', ⟨HhB, HhR⟩, HU⟩,
    ⟨HGM, HEM, ⟨%fg, HG⟩, ⟨%fe, HE⟩, HcG, HcE⟩, ⟨HO, HO', Hco, Hco'⟩, Htodo⟩, HW, Hk⟩
  sl_exec
  sl_for (fun n r => iprop(⌜r = words n⌝ ∗ state c XH XP XQ XG XE n)) $$ [HP' HcP' HpR HQ' HcQ' HqR HH' Hch' HhR HU HO HO' Hco Hco' Htodo HG HE HW Hch HcP HcQ]
  · intro k r
    iintro ⟨%hr, H⟩
    subst hr
    iapply (trip c XH XP XQ XG XE _ _ _ _ _ _ _ _ _ _ _ _ k)
    iexact H
  · isplitr
    · ipureintro
      exact words_zero
    rw [state_zero]
    isplitl [HcP HP' HcP' HpR HcQ HQ' HcQ' HqR]
    · unfold wts
      isplitl [HcP]
      · iexists fp
        iexact HcP
      isplitl [HP']
      · iexact HP'
      isplitl [HcP']
      · iexact HcP'
      isplitl [HpR]
      · iexact HpR
      isplitl [HcQ]
      · iexists fq
        iexact HcQ
      isplitl [HQ']
      · iexact HQ'
      isplitl [HcQ']
      · iexact HcQ'
      iexact HqR
    isplitl [HG HE HW]
    · iapply (gains_intro c XG XE _ _ _ ?eg ?ee)
      rotate_left 2
      isplitl [HG]
      · iexact HG
      isplitl [HE]
      · iexact HE
      iexact HW
      case eg => exact View.read_writes_whole _ _ _
      case ee => exact View.read_writes_whole _ _ _
    isplitl [Hch HH' Hch' HhR HU]
    · unfold rowsIn
      isplitl [Hch]
      · iexists fh
        iexact Hch
      isplitl [HH']
      · iexact HH'
      isplitl [Hch']
      · iexact Hch'
      isplitl [HhR]
      · iexact HhR
      iexact HU
    unfold outNone
    isplitl [HO]
    · iexact HO
    isplitl [HO']
    · iexact HO'
    isplitl [Hco]
    · iexact Hco
    isplitl [Hco']
    · iexact Hco'
    iexact Htodo
  · have hd := done_succ c XH XP XQ XG XE (15 : Fin 16)
    have hall : doneTo c XH XP XQ XG XE ((15 : Fin 16).val + 1) = bigSep Finset.univ (oDone c XH XP XQ XG XE) := by
      rw [doneTo, Finset.filter_true_of_mem (fun b _ => by have := b.isLt; exact this)]
    have hc3 := chk3_end
    have hc2 := chk2_end
    rw [show Scf.trips k0_t1_loop.lb k0_t1_loop.ub k0_t1_loop.st = 64 from trips_eq, state_last]
    unfold gains outLast
    iintro %r ⟨%hr, HWT, ⟨⟨%fg', HG, %eg⟩, ⟨%fe', HE, %ee⟩, ⟨%W', HW⟩⟩, HRI, ⟨HO, Hco, ⟨%g, %fb, HF, %eF⟩, Hdone⟩⟩
    subst hr
    sl_exec
    sl_step
    iapply Hk
    isplitr [HW]
    · unfold post gainsIdle outIdle
      rw [← hall, hd]
      isplitl [HWT]
      · iexact HWT
      isplitl [HRI]
      · iexact HRI
      isplitl [HG HE HGM HcG HEM HcE]
      · isplitl [HGM]
        · iexact HGM
        isplitl [HEM]
        · iexact HEM
        isplitl [HG]
        · iexists fg'
          iexact HG
        isplitl [HE]
        · iexists fe'
          iexact HE
        isplitl [HcG]
        · iexact HcG
        iexact HcE
      isplitl [HO Hco HF_src HF]
      · isplitl [HO]
        · iexact HO
        isplitl [HF_src]
        · iexists g
          iexact HF_src
        isplitl [Hco]
        · iexact Hco
        iexact HF
      isplitl [HF_dst]
      · iexists _
        isplitl [HF_dst]
        · iexact HF_dst
        ipureintro
        rw [landed_read]
        exact eF
      iexact Hdone
    · iexists _
      iexact HW

end

end Cert.Proof.Mlp
-- ==== Proof.Launch.lean ====
/-
  The launch: the arrays cut into the blocks the transfers bring, the two-slot buffers into their slots, the body run,
  and everything joined again — every fair run of the kernel's program ends, with its arguments as launched, the
  result's blocks as computed and every semaphore at zero.
-/
module

public import proofs.«01_k».proof.Proof.Body
public import proofs.«01_k».proof.Proof.Gen.KernelIdeal.Frame

@[expose] public section

set_option maxRecDepth 16384

noncomputable section

namespace Cert.Proof.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The kernel's own semaphores -/

abbrev osem : Fin 10 → SemLoc sig := fun i => .dma i
theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(cell c (hSem 0) ∗ cell c (hSem 1) ∗ cell c (pSem 0) ∗ cell c (pSem 1) ∗ cell c (qSem 0) ∗ cell c (qSem 1)
      ∗ cell c (oSem 0) ∗ cell c (oSem 1) ∗ cell c cc0_scoped10 ∗ cell c cc0_scoped11) := by
  unfold Pipeline.ownSems0
  rw [bigSep_univ_eq_bigSepL [(0 : Fin 10), 1, 2, 3, 4, 5, 6, 7, 8, 9] (by decide) (by decide)]
  rfl

/-! ## Blocks and slots as element sets -/

abbrev rowS (b : Fin 16) : Finset S8192x2048.Idx := (Rect.unit (s := S8192x2048) (rowOff b) S512x2048.size (rowOff_inb b)).set
abbrev colS (b : Fin 4) : Finset S2048x8192.Idx := (Rect.unit (s := S2048x8192) (w1Off b) S2048x2048.size (w1Off_inb b)).set
abbrev tileS (b : Fin 4) : Finset S8192x2048.Idx := (Rect.unit (s := S8192x2048) (w2Off b) S2048x2048.size (w2Off_inb b)).set
abbrev slotS (s : Fin 2) : Finset S2x512x2048.Idx := (Rect.unit (s := S2x512x2048) (slotOff s) S1x512x2048.size (slotOff_inbF s)).set
abbrev slotT (s : Fin 2) : Finset S2x2048x2048.Idx := (Rect.unit (s := S2x2048x2048) (slotOff s) S1x2048x2048.size (slotOff_inbW s)).set

theorem rowS_disjoint (b b' : Fin 16) (h : b ≠ b') : Disjoint (rowS b) (rowS b') :=
  Ring.lead_disjoint (s := S8192x2048) 0 512 rowOff S512x2048.size rowOff_inb (fun _ => rfl) rfl b b' h
theorem rowS_cover : Finset.univ.biUnion rowS = Finset.univ :=
  Ring.lead_cover (s := S8192x2048) 0 512 rowOff S512x2048.size rowOff_inb (fun _ => rfl) (by decide) rfl (by decide) rfl
theorem colS_disjoint (b b' : Fin 4) (h : b ≠ b') : Disjoint (colS b) (colS b') :=
  Ring.lead_disjoint (s := S2048x8192) 1 2048 w1Off S2048x2048.size w1Off_inb (fun _ => rfl) rfl b b' h
theorem colS_cover : Finset.univ.biUnion colS = Finset.univ :=
  Ring.lead_cover (s := S2048x8192) 1 2048 w1Off S2048x2048.size w1Off_inb (fun _ => rfl) (by decide) rfl (by decide) rfl
theorem tileS_disjoint (b b' : Fin 4) (h : b ≠ b') : Disjoint (tileS b) (tileS b') :=
  Ring.lead_disjoint (s := S8192x2048) 0 2048 w2Off S2048x2048.size w2Off_inb (fun _ => rfl) rfl b b' h
theorem tileS_cover : Finset.univ.biUnion tileS = Finset.univ :=
  Ring.lead_cover (s := S8192x2048) 0 2048 w2Off S2048x2048.size w2Off_inb (fun _ => rfl) (by decide) rfl (by decide) rfl
theorem slotS_disjoint (b b' : Fin 2) (h : b ≠ b') : Disjoint (slotS b) (slotS b') :=
  Ring.lead_disjoint (s := S2x512x2048) 0 1 slotOff S1x512x2048.size slotOff_inbF (by decide) rfl b b' h
theorem slotS_cover : Finset.univ.biUnion slotS = Finset.univ :=
  Ring.lead_cover (s := S2x512x2048) 0 1 slotOff S1x512x2048.size slotOff_inbF (by decide) (by decide) rfl (by decide) rfl
theorem slotT_disjoint (b b' : Fin 2) (h : b ≠ b') : Disjoint (slotT b) (slotT b') :=
  Ring.lead_disjoint (s := S2x2048x2048) 0 1 slotOff S1x2048x2048.size slotOff_inbW (by decide) rfl b b' h
theorem slotT_cover : Finset.univ.biUnion slotT = Finset.univ :=
  Ring.lead_cover (s := S2x2048x2048) 0 1 slotOff S1x2048x2048.size slotOff_inbW (by decide) (by decide) rfl (by decide) rfl

theorem hBlk_set (b : Fin 16) : (hBlk b).view.set = rowS b := View.set_slice_whole _ _
theorem oBlk_set (b : Fin 16) : (oBlk b).view.set = rowS b := View.set_slice_whole _ _
theorem pBlk_set (b : Fin 4) : (pBlk b).view.set = colS b := View.set_slice_whole _ _
theorem qBlk_set (b : Fin 4) : (qBlk b).view.set = tileS b := View.set_slice_whole _ _
theorem hSlot_set (s : Fin 2) : (hSlot s).view.set = slotS s := (View.set_reshape _ _).trans (View.set_slice_whole _ _)
theorem oSlot_set (s : Fin 2) : (oSlot s).view.set = slotS s := (View.set_reshape _ _).trans (View.set_slice_whole _ _)
theorem pSlot_set (s : Fin 2) : (pSlot s).view.set = slotT s := (View.set_reshape _ _).trans (View.set_slice_whole _ _)
theorem qSlot_set (s : Fin 2) : (qSlot s).view.set = slotT s := (View.set_reshape _ _).trans (View.set_slice_whole _ _)

/-! ## Arrays by blocks, buffers by slots -/

/-- A whole buffer held through its memref. -/
theorem own_whole (c : Dev nD) (b : Ref sig .tc) (f : Buf (Elt F) ((c : Thread nD τ).loc b)) :
    (((c : Thread nD τ).loc b) ↦{fullShare} f : sProp 𝕄) = own c (Memref.whole b) f :=
  congrArg (fun S => (_ ↦[S]{fullShare} f : sProp 𝕄)) (View.set_whole b).symm

theorem h_blocks (c : Dev nD) (f : Cont F c hM) : (((c : Thread nD τ).loc main_v7) ↦{fullShare} f : sProp 𝕄) = bigSep Finset.univ (hHome c f) := by
  rw [Ring.pointsTo_blocks (ℓ := (c : Thread nD τ).loc main_v7) rowS rowS_disjoint rowS_cover]
  exact bigSep_congr fun b _ => by rw [← hBlk_set]; rfl
theorem p_blocks (c : Dev nD) (f : Cont F c pM) : (((c : Thread nD τ).loc main_v4) ↦{fullShare} f : sProp 𝕄) = bigSep Finset.univ (pHome c f) := by
  rw [Ring.pointsTo_blocks (ℓ := (c : Thread nD τ).loc main_v4) colS colS_disjoint colS_cover]
  exact bigSep_congr fun b _ => by rw [← pBlk_set]; rfl
theorem q_blocks (c : Dev nD) (f : Cont F c qM) : (((c : Thread nD τ).loc main_v6) ↦{fullShare} f : sProp 𝕄) = bigSep Finset.univ (qHome c f) := by
  rw [Ring.pointsTo_blocks (ℓ := (c : Thread nD τ).loc main_v6) tileS tileS_disjoint tileS_cover]
  exact bigSep_congr fun b _ => by rw [← qBlk_set]; rfl
/-- The result's array at launch: every block, at anything. -/
theorem o_blocks (c : Dev nD) (f : Cont F c oM) : (((c : Thread nD τ).loc main_v8) ↦{fullShare} f : sProp 𝕄) ⊢ todoFrom c 0 := by
  rw [Ring.pointsTo_blocks (ℓ := (c : Thread nD τ).loc main_v8) rowS rowS_disjoint rowS_cover, todoFrom,
    Finset.filter_true_of_mem (fun b _ => Nat.zero_le _)]
  refine bigSep_mono fun b _ => ?_
  rw [← oBlk_set]
  exact exists_intro (Φ := fun f => own c (oBlk b) f) f
theorem swap {P Q : sProp 𝕄} : iprop(P ∗ Q) ⊢ iprop(Q ∗ P) := by
  iintro ⟨A, B⟩
  isplitl [B]
  · iexact B
  iexact A
theorem eq_entails {P Q : sProp 𝕄} (e : P = Q) : P ⊢ Q := e ▸ .rfl
theorem oBlk_own (c : Dev nD) (b : Fin 16) (f : Cont F c oM) :
    (own c (oBlk b) f : sProp 𝕄) = (((c : Thread nD τ).loc main_v8) ↦[rowS b]{fullShare} f) :=
  congrArg (fun S => (((c : Thread nD τ).loc main_v8) ↦[S]{fullShare} f : sProp 𝕄)) (oBlk_set b)
/-- The finished blocks are the array, each block of it as computed. -/
theorem o_join (c : Dev nD) (XH : Cont F c hM) (XP : Cont F c pM) (XQ : Cont F c qM) (XG : Cont F c gM) (XE : Cont F c eM) (f₀ : Cont F c oM) :
    bigSep Finset.univ (oDone c XH XP XQ XG XE)
      ⊢ (iprop(∃ g : Cont F c oM, ⌜∀ b, lift ((oBlk b).view.read (Elt F) g) = outV c XH XP XQ XG XE b⌝
          ∗ (((c : Thread nD τ).loc main_v8) ↦{fullShare} g)) : sProp 𝕄) := by
  have : Nonempty (Cont F c oM) := ⟨f₀⟩
  have h1 := Idealize.SL.BI.bigSep_exists_pi (M := 𝕄) Finset.univ (fun (b : Fin 16) (f : Cont F c oM) =>
    iprop(own c (oBlk b) f ∗ ⌜lift ((oBlk b).view.read (Elt F) f) = outV c XH XP XQ XG XE b⌝))
  have h2 : ∀ fs : Fin 16 → Cont F c oM, bigSep Finset.univ (fun b => iprop(own c (oBlk b) (fs b) ∗ ⌜lift ((oBlk b).view.read (Elt F) (fs b)) = outV c XH XP XQ XG XE b⌝))
      ⊢ (bigSep Finset.univ (fun b => iprop(⌜lift ((oBlk b).view.read (Elt F) (fs b)) = outV c XH XP XQ XG XE b⌝ ∗ own c (oBlk b) (fs b))) : sProp 𝕄) :=
    by
    intro fs
    refine bigSep_mono fun b _ => ?_
    apply swap
  have h3 := fun fs : Fin 16 → Cont F c oM => bigSep_pure_sep (M := 𝕄) Finset.univ
    (fun b => lift ((oBlk b).view.read (Elt F) (fs b)) = outV c XH XP XQ XG XE b) (fun b => own c (oBlk b) (fs b))
  have h4 : ∀ fs : Fin 16 → Cont F c oM, bigSep Finset.univ (fun b => own c (oBlk b) (fs b)) ⊢ (iprop(∃ g : Cont F c oM,
      ⌜∀ b ∈ Finset.univ, ∀ i ∈ rowS b, g i = fs b i⌝ ∗ (((c : Thread nD τ).loc main_v8) ↦{fullShare} g)) : sProp 𝕄) := fun fs => by
    have h := pointsTo_biUnion_join (Ix := Unit) (Name := ℕ) (U := UU) (Lvl := ℕ) (q := fullShare) (ℓ := (c : Thread nD τ).loc main_v8)
      Finset.univ rowS fs f₀ (fun b _ b' _ h => rowS_disjoint b b' h)
    rw [rowS_cover] at h
    exact (eq_entails (bigSep_congr fun b _ => oBlk_own c b (fs b))).trans h
  refine h1.trans ?_
  iintro ⟨%fs, H⟩
  ihave H' := ((h2 fs).trans (h3 fs)) $$ H
  icases H' with ⟨%hf, H⟩
  ihave H' := (h4 fs) $$ H
  icases H' with ⟨%g, %hg, H⟩
  iexists g
  isplitr
  · ipureintro
    intro b
    exact (congrArg lift (View.read_congr (fun i hi => hg b (Finset.mem_univ _) i (oBlk_set b ▸ hi)))).trans (hf b (Finset.mem_univ _))
  · iexact H

theorem two (Φ : Fin 2 → sProp 𝕄) : bigSep Finset.univ Φ = iprop(Φ 0 ∗ Φ 1) := bigSep_univ_eq_bigSepL [(0 : Fin 2), (1 : Fin 2)] (by decide) (by decide) Φ

/-- A buffer held whole is held slot by slot, and back. -/
theorem split2 {ℓ : Loc nD τ sig} (I : Fin 2 → Finset (Idx ℓ)) (hd : ∀ b b', b ≠ b' → Disjoint (I b) (I b')) (hc : Finset.univ.biUnion I = Finset.univ) :
    (iprop(∃ f : Buf (Elt F) ℓ, ℓ ↦{fullShare} f) : sProp 𝕄) ⊢ iprop((∃ f, ℓ ↦[I 0]{fullShare} f) ∗ ∃ f, ℓ ↦[I 1]{fullShare} f) := by
  iintro ⟨%f, H⟩
  ihave H2 := (eq_entails ((Ring.pointsTo_blocks (Ix := Unit) (Name := ℕ) (U := UU) (Lvl := ℕ) (q := fullShare) I hd hc f).trans (two _))) $$ H
  icases H2 with ⟨H0, H1⟩
  isplitl [H0]
  · iexists f; iexact H0
  · iexists f; iexact H1
theorem join2 {ℓ : Loc nD τ sig} (I : Fin 2 → Finset (Idx ℓ)) (hd : ∀ b b', b ≠ b' → Disjoint (I b) (I b')) (hc : Finset.univ.biUnion I = Finset.univ) :
    (iprop((∃ f, ℓ ↦[I 0]{fullShare} f) ∗ ∃ f, ℓ ↦[I 1]{fullShare} f) : sProp 𝕄) ⊢ iprop(∃ f : Buf (Elt F) ℓ, ℓ ↦{fullShare} f) := by
  iintro ⟨⟨%f0, H0⟩, ⟨%f1, H1⟩⟩
  iapply (Ring.pointsTo_blocks_join_exists (ℓ := ℓ) I hd hc f0)
  rw [two]
  isplitl [H0]
  · iexists f0; iexact H0
  · iexists f1; iexact H1

theorem any_slot {ℓ : Loc nD τ sig} {S S' : Finset (Idx ℓ)} (h : S = S') :
    (iprop(∃ f : Buf (Elt F) ℓ, ℓ ↦[S]{fullShare} f) : sProp 𝕄) = iprop(∃ f : Buf (Elt F) ℓ, ℓ ↦[S']{fullShare} f) := by rw [h]

/-- The buffers at anything, by slots. -/
theorem h_slots (c : Dev nD) : (iprop(∃ f : Buf (Elt F) ((c : Thread nD τ).loc cc0_scoped0), ((c : Thread nD τ).loc cc0_scoped0) ↦{fullShare} f) : sProp 𝕄)
    ⊣⊢ iprop(any c (hSlot 0) ∗ any c (hSlot 1)) := by
  rw [show (any (F := F) c (hSlot 0)) = _ from any_slot (ℓ := (c : Thread nD τ).loc cc0_scoped0) (hSlot_set 0),
    show (any (F := F) c (hSlot 1)) = _ from any_slot (ℓ := (c : Thread nD τ).loc cc0_scoped0) (hSlot_set 1)]
  exact ⟨split2 (ℓ := (c : Thread nD τ).loc cc0_scoped0) slotS slotS_disjoint slotS_cover, join2 (ℓ := (c : Thread nD τ).loc cc0_scoped0) slotS slotS_disjoint slotS_cover⟩
theorem o_slots (c : Dev nD) : (iprop(∃ f : Buf (Elt F) ((c : Thread nD τ).loc cc0_scoped8), ((c : Thread nD τ).loc cc0_scoped8) ↦{fullShare} f) : sProp 𝕄)
    ⊣⊢ iprop(any c (oSlot 0) ∗ any c (oSlot 1)) := by
  rw [show (any (F := F) c (oSlot 0)) = _ from any_slot (ℓ := (c : Thread nD τ).loc cc0_scoped8) (oSlot_set 0),
    show (any (F := F) c (oSlot 1)) = _ from any_slot (ℓ := (c : Thread nD τ).loc cc0_scoped8) (oSlot_set 1)]
  exact ⟨split2 (ℓ := (c : Thread nD τ).loc cc0_scoped8) slotS slotS_disjoint slotS_cover, join2 (ℓ := (c : Thread nD τ).loc cc0_scoped8) slotS slotS_disjoint slotS_cover⟩
theorem p_slots (c : Dev nD) : (iprop(∃ f : Buf (Elt F) ((c : Thread nD τ).loc cc0_scoped3), ((c : Thread nD τ).loc cc0_scoped3) ↦{fullShare} f) : sProp 𝕄)
    ⊣⊢ iprop(any c (pSlot 0) ∗ any c (pSlot 1)) := by
  rw [show (any (F := F) c (pSlot 0)) = _ from any_slot (ℓ := (c : Thread nD τ).loc cc0_scoped3) (pSlot_set 0),
    show (any (F := F) c (pSlot 1)) = _ from any_slot (ℓ := (c : Thread nD τ).loc cc0_scoped3) (pSlot_set 1)]
  exact ⟨split2 (ℓ := (c : Thread nD τ).loc cc0_scoped3) slotT slotT_disjoint slotT_cover, join2 (ℓ := (c : Thread nD τ).loc cc0_scoped3) slotT slotT_disjoint slotT_cover⟩
theorem q_slots (c : Dev nD) : (iprop(∃ f : Buf (Elt F) ((c : Thread nD τ).loc cc0_scoped5), ((c : Thread nD τ).loc cc0_scoped5) ↦{fullShare} f) : sProp 𝕄)
    ⊣⊢ iprop(any c (qSlot 0) ∗ any c (qSlot 1)) := by
  rw [show (any (F := F) c (qSlot 0)) = _ from any_slot (ℓ := (c : Thread nD τ).loc cc0_scoped5) (qSlot_set 0),
    show (any (F := F) c (qSlot 1)) = _ from any_slot (ℓ := (c : Thread nD τ).loc cc0_scoped5) (qSlot_set 1)]
  exact ⟨split2 (ℓ := (c : Thread nD τ).loc cc0_scoped5) slotT slotT_disjoint slotT_cover, join2 (ℓ := (c : Thread nD τ).loc cc0_scoped5) slotT slotT_disjoint slotT_cover⟩
/-- A whole buffer at anything, through its memref. -/
theorem any_whole (c : Dev nD) (b : Ref sig .tc) :
    (iprop(∃ f : Buf (Elt F) ((c : Thread nD τ).loc b), ((c : Thread nD τ).loc b) ↦{fullShare} f) : sProp 𝕄) = any c (Memref.whole b) :=
  any_slot (View.set_whole b).symm

/-! ## The proof data of the one region -/

abbrev XH (c : Dev nD) : Cont F c hM := V m c main_v7
abbrev XP (c : Dev nD) : Cont F c pM := V m c main_v4
abbrev XQ (c : Dev nD) : Cont F c qM := V m c main_v6
abbrev XG (c : Dev nD) : Cont F c gM := V m c main_v1
abbrev XE (c : Dev nD) : Cont F c eM := V m c main_v2

def pre' (c : Dev nD) : sProp 𝕄 := pre c (XH m c) (XP m c) (XQ m c) (XG m c) (XE m c)
def post' (c : Dev nD) : sProp 𝕄 := post c (XH m c) (XP m c) (XQ m c) (XG m c) (XE m c)

def dats (_ : Fin 1) (c : Dev nD) : Dat τ (Elt F) Unit ℕ UU ℕ cfg0 c where
  A w := w.elim0
  after w := w.elim0
  Φ t := if t.val = 0 then pre' m c else post' m c
  q _ := fullShare
  owed _ := 0

theorem Φ_first (c : Dev nD) {t : Fin (cfg0.N + 1)} (h : t.val = 0) : (dats (F := F) m 0 c).Φ t = pre' m c := by
  unfold dats; dsimp only; rw [if_pos h]
theorem Φ_after (c : Dev nD) {t : Fin (cfg0.N + 1)} (h : t.val ≠ 0) : (dats (F := F) m 0 c).Φ t = post' m c := by
  unfold dats; dsimp only; rw [if_neg h]

theorem defs_tc : (defs₀ (F := F)) .tc cfg0.body = fun _ => bodyG := rfl
theorem prog_eq (t : Fin cfg0.N) : (defs₀ (F := F)) .tc cfg0.body (cfg0.bodyArgs t (cfg0.slots t)) = bodyG := (congrFun defs_tc _).trans rfl

set_option backward.isDefEq.respectTransparency.types false in
theorem body_obligation (c : Dev nD) : BodyObligation (dats (F := F) m 0 c) (defs₀ (F := F)) 𝒱₀ () Set.univ := fun t => by
  have ht : t = t0_0 := fin_N0 t
  rw [Φ_first m c (t := t.castSucc) (by rw [ht]; rfl), Φ_after m c (t := t.succ) (by simp)]
  unfold Dat.owesAt Pipeline.owesWithin
  rw [show (dats m 0 c).owed t.castSucc = 0 from rfl, show (dats m 0 c).owed t.succ = 0 from rfl]
  iintro ⟨HP, ⟨%W, -, HW⟩, He⟩
  sl_rw [prog_eq t]
  unfold pre' post'
  iapply (bodyRun c (XH m c) (XP m c) (XQ m c) (XG m c) (XE m c) W)
  isplitl [HP]; · iexact HP
  isplitl [HW]; · iexact HW
  iintro ⟨HP, ⟨%W', HW⟩⟩
  isplitl [HP]; · iexact HP
  isplitl [HW]
  · iexists W'; isplitr; · ipureintro; exact fun _ _ => Or.inl trivial
    iexact HW
  iexact He

/-! ## The run -/

/-- What the region takes of the arrays, and what it gives back. -/
def intoX (c : Dev nD) : sProp 𝕄 := iprop(bigSep Finset.univ (hHome c (XH m c)) ∗ bigSep Finset.univ (pHome c (XP m c)) ∗ bigSep Finset.univ (qHome c (XQ m c))
  ∗ own c gM (XG m c) ∗ own c eM (XE m c) ∗ todoFrom c 0 ∗ Pipeline.ownSems0 osem c)
def outY (c : Dev nD) : sProp 𝕄 := bigSep Finset.univ (oDone c (XH m c) (XP m c) (XQ m c) (XG m c) (XE m c))
/-- The arguments, which the region does not touch. -/
def argsZ (c : Dev nD) : sProp 𝕄 := iprop(
  (((c : Thread nD τ).loc main_arg0) ↦{fullShare} V m c main_arg0) ∗ (((c : Thread nD τ).loc main_arg1) ↦{fullShare} V m c main_arg1)
  ∗ (((c : Thread nD τ).loc main_arg2) ↦{fullShare} V m c main_arg2) ∗ (((c : Thread nD τ).loc main_arg3) ↦{fullShare} V m c main_arg3)
  ∗ (((c : Thread nD τ).loc main_arg4) ↦{fullShare} V m c main_arg4))

def u₀ : UU := (initOf (Pipeline.cells cfgs cellOf_inj) (Pipeline.launchToks cfgs cellOf_inj), 1)

/-- What the run leaves on core `c`. -/
def QY (c : Dev nD) (s : MemSt nD τ sig (Elt F)) : Prop :=
  (∀ b : Fin 16, lift ((oBlk b).view.read (Elt F) (s.mem ((c : Thread nD τ).loc main_v8))) = outV c (XH m c) (XP m c) (XQ m c) (XG m c) (XE m c) b)
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)

set_option backward.isDefEq.respectTransparency.types false in
theorem run_main : θ_run defs (onTc (τ := τ) (main (F := F))) ⟨m, fun _ => 0, ρ⟩ (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c w => w.elim0)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ w => w.elim0)
    (X := intoX m) (Y := outY m) (Z := argsZ m)
    (hX := fun c => by
      rw [unscopedRest0_eq, h_blocks c (V m c main_v7), p_blocks c (V m c main_v4), q_blocks c (V m c main_v6),
        own_whole c main_v1 (V m c main_v1), own_whole c main_v2 (V m c main_v2)]
      unfold intoX argsZ
      iintro ⟨⟨H0, H1, H2, H3, H4, -, HG, HE, -, HP, -, HQ, HH, HO⟩, HS, -, -, -⟩; imodintro
      isplitr [H0 H1 H2 H3 H4]
      · isplitl [HH]; · iexact HH
        isplitl [HP]; · iexact HP
        isplitl [HQ]; · iexact HQ
        isplitl [HG]; · iexact HG
        isplitl [HE]; · iexact HE
        isplitl [HO]; · iapply (o_blocks c (V m c main_v8)); iexact HO
        iexact HS
      isplitl [H0]; · iexact H0
      isplitl [H1]; · iexact H1
      isplitl [H2]; · iexact H2
      isplitl [H3]; · iexact H3
      iexact H4)
    (hin := fun c => by
      rw [scopedRest0_eq, Φ_first m c (t := 0) rfl]
      unfold intoX pre' pre wtsIdle rowsIdle gainsIdle outIdle
      rw [ownSems0_eq, any_whole c cc0_scratch0, any_whole c cc0_scoped2, any_whole c cc0_scoped7]
      iintro ⟨⟨HH, HP, HQ, HG, HE, HO, C0, C1, C2, C3, C4, C5, C6, C7, C8, C9⟩, ⟨BU, BH, BG, BP, BQ, BE, BO⟩⟩
      ihave SH := (h_slots (F := F) c).1 $$ BH
      icases SH with ⟨SH0, SH1⟩
      ihave SP := (p_slots (F := F) c).1 $$ BP
      icases SP with ⟨SP0, SP1⟩
      ihave SQ := (q_slots (F := F) c).1 $$ BQ
      icases SQ with ⟨SQ0, SQ1⟩
      ihave SO := (o_slots (F := F) c).1 $$ BO
      icases SO with ⟨SO0, SO1⟩
      isplitl [SP0 SP1 C2 C3 HP SQ0 SQ1 C4 C5 HQ]
      · isplitl [SP0]; · iexact SP0
        isplitl [SP1]; · iexact SP1
        isplitl [C2]; · iexact C2
        isplitl [C3]; · iexact C3
        isplitl [HP]; · iexact HP
        isplitl [SQ0]; · iexact SQ0
        isplitl [SQ1]; · iexact SQ1
        isplitl [C4]; · iexact C4
        isplitl [C5]; · iexact C5
        iexact HQ
      isplitl [SH0 SH1 C0 C1 HH BU]
      · isplitl [SH0]; · iexact SH0
        isplitl [SH1]; · iexact SH1
        isplitl [C0]; · iexact C0
        isplitl [C1]; · iexact C1
        isplitl [HH]; · iexact HH
        iexact BU
      isplitl [HG HE BG BE C8 C9]
      · isplitl [HG]; · iexact HG
        isplitl [HE]; · iexact HE
        isplitl [BG]; · iexact BG
        isplitl [BE]; · iexact BE
        isplitl [C8]; · iexact C8
        iexact C9
      isplitl [SO0 SO1 C6 C7]
      · isplitl [SO0]; · iexact SO0
        isplitl [SO1]; · iexact SO1
        isplitl [C6]; · iexact C6
        iexact C7
      iexact HO)
    (hout := fun c => by
      rw [scopedRest0_eq, Φ_after m c (t := Fin.last cfg0.N) (by decide)]
      unfold outY post' post wtsIdle rowsIdle gainsIdle outIdle
      rw [ownSems0_eq, any_whole c cc0_scratch0, any_whole c cc0_scoped2, any_whole c cc0_scoped7]
      iintro ⟨⟨SP0, SP1, C2, C3, -, SQ0, SQ1, C4, C5, -⟩, ⟨SH0, SH1, C0, C1, -, BU⟩, ⟨-, -, BG, BE, C8, C9⟩, ⟨SO0, SO1, C6, C7⟩, HO⟩
      isplitl [HO]; · iexact HO
      isplitl [C0 C1 C2 C3 C4 C5 C6 C7 C8 C9]
      · isplitl [C0]; · iexact C0
        isplitl [C1]; · iexact C1
        isplitl [C2]; · iexact C2
        isplitl [C3]; · iexact C3
        isplitl [C4]; · iexact C4
        isplitl [C5]; · iexact C5
        isplitl [C6]; · iexact C6
        isplitl [C7]; · iexact C7
        isplitl [C8]; · iexact C8
        iexact C9
      isplitl [BU]; · iexact BU
      isplitl [SH0 SH1]
      · iapply (h_slots (F := F) c).2
        isplitl [SH0]; · iexact SH0
        iexact SH1
      isplitl [BG]; · iexact BG
      isplitl [SP0 SP1]
      · iapply (p_slots (F := F) c).2
        isplitl [SP0]; · iexact SP0
        iexact SP1
      isplitl [SQ0 SQ1]
      · iapply (q_slots (F := F) c).2
        isplitl [SQ0]; · iexact SQ0
        iexact SQ1
      isplitl [BE]; · iexact BE
      iapply (o_slots (F := F) c).2
      isplitl [SO0]; · iexact SO0
      iexact SO1)
    (QY := QY m)
    (hY := fun c s' => by
      unfold outY argsZ
      rw [V_main_arg0, V_main_arg1, V_main_arg2, V_main_arg3, V_main_arg4]
      iintro ⟨HO, ⟨H0, H1, H2, H3, H4⟩, HSI⟩
      ihave HO' := (o_join c (XH m c) (XP m c) (XQ m c) (XG m c) (XE m c) (m _)) $$ HO
      icases HO' with ⟨%g, %hg, HO⟩
      icombine HSI HO gives %h
      icombine HSI H0 gives %h0
      icombine HSI H1 gives %h1
      icombine HSI H2 gives %h2
      icombine HSI H3 gives %h3
      icombine HSI H4 gives %h4
      imodintro
      isplitr
      · ipureintro
        exact ⟨fun b => by rw [Buf.eq_of_forall_mem_univ h]; exact hg b, Buf.eq_of_forall_mem_univ h0, Buf.eq_of_forall_mem_univ h1,
          Buf.eq_of_forall_mem_univ h2, Buf.eq_of_forall_mem_univ h3, Buf.eq_of_forall_mem_univ h4⟩
      iexact HSI)
    (hQ := fun _ hh hz => ⟨fun c => (hh c).2, hz⟩)

end Cert.Proof.Mlp

end
-- ==== Proof.Result.lean ====
/- The kernel's result at the extended reals is the reference's, row by row. -/
module

public import proofs.«01_k».proof.Proof.Values
public import proofs.«01_k».proof.Proof.Launch

@[expose] public section

set_option maxRecDepth 16384

noncomputable section

namespace Cert.Proof.Mlp

open Cert.KernelIdeal Cert.KernelIdeal.Gen
open Idealize.ShloMosaic Idealize.ShloMosaic.TcCoe Idealize.SL.Sem

variable (m : (ℓ : Loc nD τ sig) → Buf (Elt Ideal) ℓ) (c : Dev nD)

/-! ## The arguments, and the arrays the launch finds -/

abbrev A0 : FVec Ideal S2x4096x2048 .f32 := m ((c : Thread nD τ).loc main_arg0)
abbrev A1 : FVec Ideal S1x2048 .f32 := m ((c : Thread nD τ).loc main_arg1)
abbrev A2 : FVec Ideal S1x2048x8192 .f32 := m ((c : Thread nD τ).loc main_arg2)
abbrev A3 : FVec Ideal S1x8192x2048 .f32 := m ((c : Thread nD τ).loc main_arg3)
abbrev A4 : FVec Ideal S2048 .f32 := m ((c : Thread nD τ).loc main_arg4)

theorem XH_eq : XH m c = shapeCast S8192x2048 (A0 m c) shapeCasts_S2x4096x2048_S8192x2048 := by
  dsimp only [XH, V, hostOps0]; after_results; rfl
theorem XG_eq : XG m c = shapeCast S1x2048 (shapeCast S2048 (A1 m c) shapeCasts_S1x2048_S2048) shapeCasts_S2048_S1x2048 := by
  dsimp only [XG, V, hostOps0]; after_results; rfl
theorem XE_eq : XE m c = shapeCast S1x2048 (A4 m c) shapeCasts_S2048_S1x2048 := by
  dsimp only [XE, V, hostOps0]; after_results; rfl
theorem XP_eq : XP m c = truncf (F := Ideal) .bf16 (shapeCast S2048x8192 (A2 m c) shapeCasts_S1x2048x8192_S2048x8192) bitsLt_bf16_f32 := by
  dsimp only [XP, V, hostOps0]; after_results; rfl
theorem XQ_eq : XQ m c = truncf (F := Ideal) .bf16 (shapeCast S8192x2048 (A3 m c) shapeCasts_S1x8192x2048_S8192x2048) bitsLt_bf16_f32 := by
  dsimp only [XQ, V, hostOps0]; after_results; rfl

/-! ## The blocks' elements -/

/-- Row `i` of block `b` among all the rows. -/
def row (b : Fin 16) (i : Fin 512) : Fin 8192 := ⟨512 * b.val + i.val, by omega⟩

variable {c}

theorem hBlk_read (X : Buf (Elt Ideal) ((c : Thread nD τ).loc main_v7)) (b : Fin 16) (i : Fin 512) (k : Fin 2048) :
    (hBlk b).view.read (Elt Ideal) X (ix2 i k) = X (ix2 (row b i) k) :=
  congrArg X (funext fun a => Fin.ext (by
    match a with
    | ⟨0, _⟩ => show 512 * b.val + 1 * i.val = 512 * b.val + i.val; omega
    | ⟨1, _⟩ => show 0 + 1 * k.val = k.val; omega))
theorem oBlk_read (X : Buf (Elt Ideal) ((c : Thread nD τ).loc main_v8)) (b : Fin 16) (i : Fin 512) (k : Fin 2048) :
    (oBlk b).view.read (Elt Ideal) X (ix2 i k) = X (ix2 (row b i) k) :=
  congrArg X (funext fun a => Fin.ext (by
    match a with
    | ⟨0, _⟩ => show 512 * b.val + 1 * i.val = 512 * b.val + i.val; omega
    | ⟨1, _⟩ => show 0 + 1 * k.val = k.val; omega))
theorem pBlk_read (X : Buf (Elt Ideal) ((c : Thread nD τ).loc main_v4)) (t : Fin 4) (k l : Fin 2048) :
    (pBlk t).view.read (Elt Ideal) X (ix2 k l) = X (ix2 k (hid t l)) :=
  congrArg X (funext fun a => Fin.ext (by
    match a with
    | ⟨0, _⟩ => show 0 + 1 * k.val = k.val; omega
    | ⟨1, _⟩ => show 2048 * t.val + 1 * l.val = 2048 * t.val + l.val; omega))
theorem qBlk_read (X : Buf (Elt Ideal) ((c : Thread nD τ).loc main_v6)) (t : Fin 4) (l n : Fin 2048) :
    (qBlk t).view.read (Elt Ideal) X (ix2 l n) = X (ix2 (hid t l) n) :=
  congrArg X (funext fun a => Fin.ext (by
    match a with
    | ⟨0, _⟩ => show 2048 * t.val + 1 * l.val = 2048 * t.val + l.val; omega
    | ⟨1, _⟩ => show 0 + 1 * n.val = n.val; omega))

variable (c)

theorem h_at (b : Fin 16) (i : Fin 512) (k : Fin 2048) : hX c (XH m c) b (ix2 i k) = A0 m c (ix3 (bat (row b i)) (pos (row b i)) k) := by
  rw [hX, hBlk_read, XH_eq]
  generalize A0 m c = x
  pointwise
theorem p_at (t : Fin 4) (k l : Fin 2048) : pX c (XP m c) t (ix2 k l) = A2 m c (ix3 0 k (hid t l)) := by
  rw [pX, pBlk_read, XP_eq]
  generalize A2 m c = x
  pointwise
theorem q_at (t : Fin 4) (l n : Fin 2048) : qX c (XQ m c) t (ix2 l n) = A3 m c (ix3 0 (hid t l) n) := by
  rw [qX, qBlk_read, XQ_eq]
  generalize A3 m c = x
  pointwise
theorem g_at (k : Fin 2048) : gX c (XG m c) (ix2 0 k) = A1 m c (ix2 0 k) := by
  show XG m c (ix2 0 k) = _
  rw [XG_eq]
  generalize A1 m c = x
  pointwise
theorem e_at (k : Fin 2048) : eX c (XE m c) (ix2 0 k) = A4 m c (ix1 k) := by
  show XE m c (ix2 0 k) = _
  rw [XE_eq]
  generalize A4 m c = x
  pointwise

/-! ## A block of the result -/

/-- The row of the arguments that row `r` of the result is made of, and the weights. -/
abbrev hRow (r : Fin 8192) (k : Fin 2048) : EReal := A0 m c (ix3 (bat r) (pos r) k)
abbrev gRow (k : Fin 2048) : EReal := A1 m c (ix2 0 k)
abbrev eRow (k : Fin 2048) : EReal := A4 m c (ix1 k)
abbrev w1At (k : Fin 2048) (l : Fin 8192) : EReal := A2 m c (ix3 0 k l)
abbrev w2At (l : Fin 8192) (n : Fin 2048) : EReal := A3 m c (ix3 0 l n)

/-- One tile's contribution to element `n` of row `r`. -/
def part (r : Fin 8192) (t : Fin 4) (n : Fin 2048) : EReal :=
  ∑ l : Fin 2048, unit (rms (hRow m c r) (gRow m c)) (fun k => w1At m c k (hid t l)) * w2At m c (hid t l) n

theorem u_at (b : Fin 16) (i : Fin 512) (k : Fin 2048) :
    uV c (XH m c) (XG m c) b (ix2 i k) = rms (hRow m c (row b i)) (gRow m c) k :=
  pay3_at _ _ i k (h_at m c b i) (g_at m c)

/-- What the accumulator's row holds after tile `f`. -/
def accRow (r : Fin 8192) : Nat → Fin 2048 → EReal
  | 0 => fun n => hRow m c r n + part m c r 0 n
  | f + 1 => fun n => accRow r f n + part m c r (tl (f + 1)) n

theorem acc_at (b : Fin 16) (i : Fin 512) : ∀ (f : Nat) (n : Fin 2048),
    acc c (XH m c) (XP m c) (XQ m c) (XG m c) b f (ix3 0 i n) = accRow m c (row b i) f n
  | 0, n => pay4_at _ _ _ _ i n (h_at m c b i) (g_at m c) (p_at m c 0) (q_at m c 0)
  | f + 1, n => pay5_at _ _ _ _ i n (acc_at b i f) (u_at m c b i) (p_at m c (tl (f + 1))) (q_at m c (tl (f + 1)))

theorem out_at (b : Fin 16) (i : Fin 512) (j : Fin 2048) :
    outV c (XH m c) (XP m c) (XQ m c) (XG m c) (XE m c) b (ix3 0 i j)
      = outRow (hRow m c (row b i)) (gRow m c) (eRow m c) (w1At m c) (w2At m c) j := by
  refine (pay6_at _ _ _ _ _ i j (acc_at m c b i 2) (u_at m c b i) (p_at m c 3) (q_at m c 3) (e_at m c)).trans ?_
  refine congrArg (fun f => rms f (eRow m c) j) (funext fun n => ?_)
  rw [mlpRow, sum_tiles, ← add_assoc, ← add_assoc, ← add_assoc]
  rfl

/-- The array whose rows are those: the result. -/
def result : Buf (Elt Ideal) ((c : Thread nD τ).loc main_v8) :=
  fun x => outRow (hRow m c (x 0)) (gRow m c) (eRow m c) (w1At m c) (w2At m c) (x 1)

theorem result_of_blocks (g : Buf (Elt Ideal) ((c : Thread nD τ).loc main_v8))
    (h : ∀ b : Fin 16, lift ((oBlk b).view.read (Elt Ideal) g) = outV c (XH m c) (XP m c) (XQ m c) (XG m c) (XE m c) b) : g = result m c := by
  funext x
  have hb : (x 0).val < 8192 := (x 0).isLt
  obtain ⟨b, i, e⟩ : ∃ (b : Fin 16) (i : Fin 512), row b i = x 0 := ⟨⟨(x 0).val / 512, by omega⟩, ⟨(x 0).val % 512, by omega⟩, Fin.ext (Nat.div_add_mod _ _)⟩
  have hx : x = ix2 (row b i) (x 1) := by rw [e]; exact eq_ix2 x
  have h1 := congrFun (h b) (ix3 0 i (x 1))
  replace h1 := h1.trans (out_at m c b i (x 1))
  have h2 : lift ((oBlk b).view.read (Elt Ideal) g) (ix3 0 i (x 1)) = g (ix2 (row b i) (x 1)) := by
    rw [← oBlk_read g b i (x 1)]
    generalize (oBlk b).view.read (Elt Ideal) g = y
    pointwise [lift]
  rw [result, ← e, ← h1, h2]
  exact congrArg g hx

/-- The reference's array, over memory that agrees on the arguments. -/
theorem reference_eq (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = A0 m c)
    (h1 : m' ((c.tc : Thread Cert.ReferenceIdeal.nD Cert.ReferenceIdeal.τ).loc Cert.ReferenceIdeal.main_arg1) = A1 m c)
    (h2 : m' ((c.tc : Thread Cert.ReferenceIdeal.nD Cert.ReferenceIdeal.τ).loc Cert.ReferenceIdeal.main_arg2) = A2 m c)
    (h3 : m' ((c.tc : Thread Cert.ReferenceIdeal.nD Cert.ReferenceIdeal.τ).loc Cert.ReferenceIdeal.main_arg3) = A3 m c)
    (h4 : m' ((c.tc : Thread Cert.ReferenceIdeal.nD Cert.ReferenceIdeal.τ).loc Cert.ReferenceIdeal.main_arg4) = A4 m c) :
    Cert.ReferenceIdeal.Value.res_main_v34 m' c = result m c := by
  rw [Cert.ReferenceIdeal.Read.val_main_v34_eq, h0, h1, h2, h3, h4]
  funext x
  exact (congrArg _ (eq_ix2 x)).trans (reference_apply _ _ _ _ _ (x 0) (x 1))

end Cert.Proof.Mlp

end
-- ==== Proof.MixRun.lean ====
/- One grid point of the mixer: its body run from any contents of its buffers. -/
module
public import proofs.«01_k».proof.Proof.Gen.Kernel2Ideal.Skeleton
public import Idealize.ShloMosaic.Lib.Tactic
public import Idealize.ShloMosaic.Lib.Pipeline.Kit

@[expose] public section

noncomputable section

namespace Cert.Proof.Mix

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of a memref's buffer, on core `c`. -/
abbrev Cont (F : FTy → Type) (c : Dev nD) {sp : Space} {s : Shape} {e : EltTy} (M : Memref sig .tc sp s e) : Type :=
  Buf (Elt F) (M.view.loc (c : Thread nD τ))
/-- A memref's elements held, at some share. -/
abbrev hd (c : Dev nD) {sp : Space} {s : Shape} {e : EltTy} (M : Memref sig .tc sp s e) (q : PosShare TreeShare) (f : Cont F c M) : sProp 𝕄 :=
  M.view.loc (c : Thread nD τ) ↦[M.view.set]{q} f

/-- One grid point: its coordinates and the buffers its body is given. -/
structure Bufs where
  i : grid0.Coords
  arg3 : Memref sig .tc .vmem S1x512x2048 .f32
  harg3 : arg3.IsWhole
  arg4 : Memref sig .tc .vmem S16x2048 .f32
  harg4 : arg4.IsWhole
  arg5 : Memref sig .tc .vmem S1x2048 .f32
  harg5 : arg5.IsWhole
  arg6 : Memref sig .tc .vmem S2048x512 .bf16
  harg6 : arg6.IsWhole
  arg7 : Memref sig .tc .vmem S2048x512 .bf16
  harg7 : arg7.IsWhole
  arg8 : Memref sig .tc .vmem S2048x512 .bf16
  harg8 : arg8.IsWhole
  arg9 : Memref sig .tc .vmem S2048x512 .bf16
  harg9 : arg9.IsWhole
  arg10 : Memref sig .tc .vmem S2048x512 .bf16
  harg10 : arg10.IsWhole
  arg11 : Memref sig .tc .vmem S1x512x512 .bf16
  harg11 : arg11.IsWhole
  arg12 : Memref sig .tc .vmem S1x512 .f32
  harg12 : arg12.IsWhole
  arg13 : Memref sig .tc .vmem S4x512 .f32
  harg13 : arg13.IsWhole
  arg14 : Memref sig .tc .vmem S1x512 .f32
  harg14 : arg14.IsWhole
  arg15 : Memref sig .tc .vmem S2x256x256 .bf16
  harg15 : arg15.IsWhole
  arg16 : Memref sig .tc .vmem S1x512 .f32
  harg16 : arg16.IsWhole
  arg17 : Memref sig .tc .vmem S2x256x256 .bf16
  harg17 : arg17.IsWhole
  arg18 : Memref sig .tc .vmem S1x512 .f32
  harg18 : arg18.IsWhole
  arg19 : Memref sig .tc .vmem S1x512 .f32
  harg19 : arg19.IsWhole
  arg20 : Memref sig .tc .vmem S512x2048 .bf16
  harg20 : arg20.IsWhole
  arg21 : Memref sig .tc .vmem S32x8192 .f32
  harg21 : arg21.IsWhole
  arg22 : Memref sig .tc .vmem S128x2048 .f32
  harg22 : arg22.IsWhole
  arg23 : Memref sig .tc .vmem S1x512x2048 .f32
  harg23 : arg23.IsWhole
  arg24 : Memref sig .tc .vmem S32x8192 .bf16
  harg24 : arg24.IsWhole
  arg25 : Memref sig .tc .vmem S128x2048 .bf16
  harg25 : arg25.IsWhole
  arg26 : Memref sig .tc .vmem S512x2048 .bf16
  harg26 : arg26.IsWhole
  arg27 : Memref sig .tc .vmem S512x512 .f32
  harg27 : arg27.IsWhole
  arg28 : Memref sig .tc .vmem S512x512 .f32
  harg28 : arg28.IsWhole
  arg29 : Memref sig .tc .vmem S512x512 .f32
  harg29 : arg29.IsWhole
  arg30 : Memref sig .tc .vmem S4x16x512 .f32
  harg30 : arg30.IsWhole
  arg31 : Memref sig .tc .vmem S4x8x512 .f32
  harg31 : arg31.IsWhole
  arg32 : Memref sig .tc .vmem S4x8x512 .f32
  harg32 : arg32.IsWhole
  arg33 : Memref sig .tc .vmem S4x16x512 .f32
  harg33 : arg33.IsWhole
  arg34 : Memref sig .tc .vmem S4x8x512 .f32
  harg34 : arg34.IsWhole
  arg35 : Memref sig .tc .vmem S4x8x512 .f32
  harg35 : arg35.IsWhole
  arg36 : Memref sig .tc .vmem S16x512 .f32
  harg36 : arg36.IsWhole
  arg37 : Memref sig .tc .vmem S16x512 .f32
  harg37 : arg37.IsWhole
  arg38 : Memref sig .tc .vmem S16x512 .f32
  harg38 : arg38.IsWhole
/-- What each of a grid point's buffers holds. -/
structure Conts (F : FTy → Type) (c : Dev nD) (M : Bufs) where
  f3 : Cont F c M.arg3
  f4 : Cont F c M.arg4
  f5 : Cont F c M.arg5
  f6 : Cont F c M.arg6
  f7 : Cont F c M.arg7
  f8 : Cont F c M.arg8
  f9 : Cont F c M.arg9
  f10 : Cont F c M.arg10
  f11 : Cont F c M.arg11
  f12 : Cont F c M.arg12
  f13 : Cont F c M.arg13
  f14 : Cont F c M.arg14
  f15 : Cont F c M.arg15
  f16 : Cont F c M.arg16
  f17 : Cont F c M.arg17
  f18 : Cont F c M.arg18
  f19 : Cont F c M.arg19
  f20 : Cont F c M.arg20
  f21 : Cont F c M.arg21
  f22 : Cont F c M.arg22
  f23 : Cont F c M.arg23
  f24 : Cont F c M.arg24
  f25 : Cont F c M.arg25
  f26 : Cont F c M.arg26
  f27 : Cont F c M.arg27
  f28 : Cont F c M.arg28
  f29 : Cont F c M.arg29
  f30 : Cont F c M.arg30
  f31 : Cont F c M.arg31
  f32 : Cont F c M.arg32
  f33 : Cont F c M.arg33
  f34 : Cont F c M.arg34
  f35 : Cont F c M.arg35
  f36 : Cont F c M.arg36
  f37 : Cont F c M.arg37
  f38 : Cont F c M.arg38

variable (c : Dev nD) (M : Bufs) (f : Conts F c M) (q : ℕ → PosShare TreeShare)

set_option maxHeartbeats 8000000 in
/-- The whole body run once, from any contents of its buffers, and what it leaves in each of them. -/
def run :
    { G : Cont F c M.arg23 × Cont F c M.arg24 × Cont F c M.arg25 × Cont F c M.arg26 × Cont F c M.arg27 × Cont F c M.arg28 × Cont F c M.arg29 × Cont F c M.arg30 × Cont F c M.arg31 × Cont F c M.arg32 × Cont F c M.arg33 × Cont F c M.arg34 × Cont F c M.arg35 × Cont F c M.arg36 × Cont F c M.arg37 × Cont F c M.arg38 // ∀ Q : PUnit → sProp 𝕄,
      iprop(hd c M.arg3 (q 3) f.f3 ∗ hd c M.arg4 (q 4) f.f4 ∗ hd c M.arg5 (q 5) f.f5 ∗ hd c M.arg6 (q 6) f.f6 ∗ hd c M.arg7 (q 7) f.f7 ∗ hd c M.arg8 (q 8) f.f8 ∗ hd c M.arg9 (q 9) f.f9 ∗ hd c M.arg10 (q 10) f.f10 ∗ hd c M.arg11 (q 11) f.f11 ∗ hd c M.arg12 (q 12) f.f12 ∗ hd c M.arg13 (q 13) f.f13 ∗ hd c M.arg14 (q 14) f.f14 ∗ hd c M.arg15 (q 15) f.f15 ∗ hd c M.arg16 (q 16) f.f16 ∗ hd c M.arg17 (q 17) f.f17 ∗ hd c M.arg18 (q 18) f.f18 ∗ hd c M.arg19 (q 19) f.f19 ∗ hd c M.arg20 (q 20) f.f20 ∗ hd c M.arg21 (q 21) f.f21 ∗ hd c M.arg22 (q 22) f.f22 ∗ hd c M.arg23 fullShare f.f23 ∗ hd c M.arg24 fullShare f.f24 ∗ hd c M.arg25 fullShare f.f25 ∗ hd c M.arg26 fullShare f.f26 ∗ hd c M.arg27 fullShare f.f27 ∗ hd c M.arg28 fullShare f.f28 ∗ hd c M.arg29 fullShare f.f29 ∗ hd c M.arg30 fullShare f.f30 ∗ hd c M.arg31 fullShare f.f31 ∗ hd c M.arg32 fullShare f.f32 ∗ hd c M.arg33 fullShare f.f33 ∗ hd c M.arg34 fullShare f.f34 ∗ hd c M.arg35 fullShare f.f35 ∗ hd c M.arg36 fullShare f.f36 ∗ hd c M.arg37 fullShare f.f37 ∗ hd c M.arg38 fullShare f.f38 ∗ (hd c M.arg3 (q 3) f.f3 ∗ hd c M.arg4 (q 4) f.f4 ∗ hd c M.arg5 (q 5) f.f5 ∗ hd c M.arg6 (q 6) f.f6 ∗ hd c M.arg7 (q 7) f.f7 ∗ hd c M.arg8 (q 8) f.f8 ∗ hd c M.arg9 (q 9) f.f9 ∗ hd c M.arg10 (q 10) f.f10 ∗ hd c M.arg11 (q 11) f.f11 ∗ hd c M.arg12 (q 12) f.f12 ∗ hd c M.arg13 (q 13) f.f13 ∗ hd c M.arg14 (q 14) f.f14 ∗ hd c M.arg15 (q 15) f.f15 ∗ hd c M.arg16 (q 16) f.f16 ∗ hd c M.arg17 (q 17) f.f17 ∗ hd c M.arg18 (q 18) f.f18 ∗ hd c M.arg19 (q 19) f.f19 ∗ hd c M.arg20 (q 20) f.f20 ∗ hd c M.arg21 (q 21) f.f21 ∗ hd c M.arg22 (q 22) f.f22 ∗ hd c M.arg23 fullShare G.1 ∗ hd c M.arg24 fullShare G.2.1 ∗ hd c M.arg25 fullShare G.2.2.1 ∗ hd c M.arg26 fullShare G.2.2.2.1 ∗ hd c M.arg27 fullShare G.2.2.2.2.1 ∗ hd c M.arg28 fullShare G.2.2.2.2.2.1 ∗ hd c M.arg29 fullShare G.2.2.2.2.2.2.1 ∗ hd c M.arg30 fullShare G.2.2.2.2.2.2.2.1 ∗ hd c M.arg31 fullShare G.2.2.2.2.2.2.2.2.1 ∗ hd c M.arg32 fullShare G.2.2.2.2.2.2.2.2.2.1 ∗ hd c M.arg33 fullShare G.2.2.2.2.2.2.2.2.2.2.1 ∗ hd c M.arg34 fullShare G.2.2.2.2.2.2.2.2.2.2.2.1 ∗ hd c M.arg35 fullShare G.2.2.2.2.2.2.2.2.2.2.2.2.1 ∗ hd c M.arg36 fullShare G.2.2.2.2.2.2.2.2.2.2.2.2.2.1 ∗ hd c M.arg37 fullShare G.2.2.2.2.2.2.2.2.2.2.2.2.2.2.1 ∗ hd c M.arg38 fullShare G.2.2.2.2.2.2.2.2.2.2.2.2.2.2.2 -∗ Q ⟨⟩)) ⊢ wp frame (wpE (defs₀ (F := F)) Variants.none c none) Set.univ
      (cc0_mixer_skel M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 M.arg28 M.harg28 M.arg29 M.harg29 M.arg30 M.harg30 M.arg31 M.harg31 M.arg32 M.harg32 M.arg33 M.harg33 M.arg34 M.harg34 M.arg35 M.harg35 M.arg36 M.harg36 M.arg37 M.harg37 M.arg38 M.harg38) Q } := by
  refine ⟨⟨?g23, ?g24, ?g25, ?g26, ?g27, ?g28, ?g29, ?g30, ?g31, ?g32, ?g33, ?g34, ?g35, ?g36, ?g37, ?g38⟩, fun Q => ?_⟩
  rotate_left 16
  iintro ⟨H3, H4, H5, H6, H7, H8, H9, H10, H11, H12, H13, H14, H15, H16, H17, H18, H19, H20, H21, H22, H23, H24, H25, H26, H27, H28, H29, H30, H31, H32, H33, H34, H35, H36, H37, H38, HQ⟩
  unfold cc0_mixer_skel
  sl_exec!
  sl_step
  iapply HQ
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  iexact H38

end Cert.Proof.Mix

end
-- ==== Proof.MixFree.lean ====
/- One grid point of the mixer, of buffers held by their values. -/
/- One grid point of the mixer: its body run from any contents of its buffers. -/
module
public import proofs.«01_k».proof.Proof.MixRun
public import Idealize.ShloMosaic.Lib.Tactic
public import Idealize.ShloMosaic.Lib.Pipeline.Kit

@[expose] public section

noncomputable section

namespace Cert.Proof.Mix

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref's elements held, its view's reading owned. -/
theorem own_of (c : Dev nD) {sp : Space} {s : Shape} {e : EltTy} (M : Memref sig .tc sp s e) (f : Cont F c M) {X : s.Idx → Elt F e}
    (h : M.view.read (Elt F) f = X) : (hd c M fullShare f : sProp 𝕄) ⊢ owns (c : Thread nD τ) M fullShare X := by
  unfold owns
  iintro H
  iexists f
  isplitr; · ipureintro; exact h
  iexact H

/-- A memref's elements held at anything. -/
abbrev some' (c : Dev nD) {sp : Space} {s : Shape} {e : EltTy} (M : Memref sig .tc sp s e) : sProp 𝕄 :=
  iprop(∃ X, owns (c : Thread nD τ) M fullShare X)

theorem own_some (c : Dev nD) {sp : Space} {s : Shape} {e : EltTy} (M : Memref sig .tc sp s e) (f : Cont F c M) :
    (hd c M fullShare f : sProp 𝕄) ⊢ some' c M := by
  iintro H
  iexists (M.view.read (Elt F) f)
  iapply (own_of c M f rfl)
  iexact H

/-- The buffers before and after the body: the inputs at what they hold, the rest at anything. -/
abbrev held (c : Dev nD) (M : Bufs) (X3 : S1x512x2048.Idx → Elt F .f32) (X4 : S16x2048.Idx → Elt F .f32) (X5 : S1x2048.Idx → Elt F .f32) (X6 : S2048x512.Idx → Elt F .bf16) (X7 : S2048x512.Idx → Elt F .bf16) (X8 : S2048x512.Idx → Elt F .bf16) (X9 : S2048x512.Idx → Elt F .bf16) (X10 : S2048x512.Idx → Elt F .bf16) (X11 : S1x512x512.Idx → Elt F .bf16) (X12 : S1x512.Idx → Elt F .f32) (X13 : S4x512.Idx → Elt F .f32) (X14 : S1x512.Idx → Elt F .f32) (X15 : S2x256x256.Idx → Elt F .bf16) (X16 : S1x512.Idx → Elt F .f32) (X17 : S2x256x256.Idx → Elt F .bf16) (X18 : S1x512.Idx → Elt F .f32) (X19 : S1x512.Idx → Elt F .f32) (X20 : S512x2048.Idx → Elt F .bf16) (X21 : S32x8192.Idx → Elt F .f32) (X22 : S128x2048.Idx → Elt F .f32) : sProp 𝕄 :=
  iprop(owns (c : Thread nD τ) M.arg3 fullShare X3 ∗ owns (c : Thread nD τ) M.arg4 fullShare X4 ∗ owns (c : Thread nD τ) M.arg5 fullShare X5 ∗ owns (c : Thread nD τ) M.arg6 fullShare X6 ∗ owns (c : Thread nD τ) M.arg7 fullShare X7 ∗ owns (c : Thread nD τ) M.arg8 fullShare X8 ∗ owns (c : Thread nD τ) M.arg9 fullShare X9 ∗ owns (c : Thread nD τ) M.arg10 fullShare X10 ∗ owns (c : Thread nD τ) M.arg11 fullShare X11 ∗ owns (c : Thread nD τ) M.arg12 fullShare X12 ∗ owns (c : Thread nD τ) M.arg13 fullShare X13 ∗ owns (c : Thread nD τ) M.arg14 fullShare X14 ∗ owns (c : Thread nD τ) M.arg15 fullShare X15 ∗ owns (c : Thread nD τ) M.arg16 fullShare X16 ∗ owns (c : Thread nD τ) M.arg17 fullShare X17 ∗ owns (c : Thread nD τ) M.arg18 fullShare X18 ∗ owns (c : Thread nD τ) M.arg19 fullShare X19 ∗ owns (c : Thread nD τ) M.arg20 fullShare X20 ∗ owns (c : Thread nD τ) M.arg21 fullShare X21 ∗ owns (c : Thread nD τ) M.arg22 fullShare X22 ∗ some' c M.arg23 ∗ some' c M.arg24 ∗ some' c M.arg25 ∗ some' c M.arg26 ∗ some' c M.arg27 ∗ some' c M.arg28 ∗ some' c M.arg29 ∗ some' c M.arg30 ∗ some' c M.arg31 ∗ some' c M.arg32 ∗ some' c M.arg33 ∗ some' c M.arg34 ∗ some' c M.arg35 ∗ some' c M.arg36 ∗ some' c M.arg37 ∗ some' c M.arg38)

set_option maxHeartbeats 4000000 in
theorem soundF (c : Dev nD) (M : Bufs) (X3 : S1x512x2048.Idx → Elt F .f32) (X4 : S16x2048.Idx → Elt F .f32) (X5 : S1x2048.Idx → Elt F .f32) (X6 : S2048x512.Idx → Elt F .bf16) (X7 : S2048x512.Idx → Elt F .bf16) (X8 : S2048x512.Idx → Elt F .bf16) (X9 : S2048x512.Idx → Elt F .bf16) (X10 : S2048x512.Idx → Elt F .bf16) (X11 : S1x512x512.Idx → Elt F .bf16) (X12 : S1x512.Idx → Elt F .f32) (X13 : S4x512.Idx → Elt F .f32) (X14 : S1x512.Idx → Elt F .f32) (X15 : S2x256x256.Idx → Elt F .bf16) (X16 : S1x512.Idx → Elt F .f32) (X17 : S2x256x256.Idx → Elt F .bf16) (X18 : S1x512.Idx → Elt F .f32) (X19 : S1x512.Idx → Elt F .f32) (X20 : S512x2048.Idx → Elt F .bf16) (X21 : S32x8192.Idx → Elt F .f32) (X22 : S128x2048.Idx → Elt F .f32) (f : Conts F c M) (e3 : M.arg3.view.read (Elt F) f.f3 = X3) (e4 : M.arg4.view.read (Elt F) f.f4 = X4) (e5 : M.arg5.view.read (Elt F) f.f5 = X5) (e6 : M.arg6.view.read (Elt F) f.f6 = X6) (e7 : M.arg7.view.read (Elt F) f.f7 = X7) (e8 : M.arg8.view.read (Elt F) f.f8 = X8) (e9 : M.arg9.view.read (Elt F) f.f9 = X9) (e10 : M.arg10.view.read (Elt F) f.f10 = X10) (e11 : M.arg11.view.read (Elt F) f.f11 = X11) (e12 : M.arg12.view.read (Elt F) f.f12 = X12) (e13 : M.arg13.view.read (Elt F) f.f13 = X13) (e14 : M.arg14.view.read (Elt F) f.f14 = X14) (e15 : M.arg15.view.read (Elt F) f.f15 = X15) (e16 : M.arg16.view.read (Elt F) f.f16 = X16) (e17 : M.arg17.view.read (Elt F) f.f17 = X17) (e18 : M.arg18.view.read (Elt F) f.f18 = X18) (e19 : M.arg19.view.read (Elt F) f.f19 = X19) (e20 : M.arg20.view.read (Elt F) f.f20 = X20) (e21 : M.arg21.view.read (Elt F) f.f21 = X21) (e22 : M.arg22.view.read (Elt F) f.f22 = X22) (Q : PUnit → sProp 𝕄) :
    iprop(hd c M.arg3 fullShare f.f3 ∗ hd c M.arg4 fullShare f.f4 ∗ hd c M.arg5 fullShare f.f5 ∗ hd c M.arg6 fullShare f.f6 ∗ hd c M.arg7 fullShare f.f7 ∗ hd c M.arg8 fullShare f.f8 ∗ hd c M.arg9 fullShare f.f9 ∗ hd c M.arg10 fullShare f.f10 ∗ hd c M.arg11 fullShare f.f11 ∗ hd c M.arg12 fullShare f.f12 ∗ hd c M.arg13 fullShare f.f13 ∗ hd c M.arg14 fullShare f.f14 ∗ hd c M.arg15 fullShare f.f15 ∗ hd c M.arg16 fullShare f.f16 ∗ hd c M.arg17 fullShare f.f17 ∗ hd c M.arg18 fullShare f.f18 ∗ hd c M.arg19 fullShare f.f19 ∗ hd c M.arg20 fullShare f.f20 ∗ hd c M.arg21 fullShare f.f21 ∗ hd c M.arg22 fullShare f.f22 ∗ hd c M.arg23 fullShare f.f23 ∗ hd c M.arg24 fullShare f.f24 ∗ hd c M.arg25 fullShare f.f25 ∗ hd c M.arg26 fullShare f.f26 ∗ hd c M.arg27 fullShare f.f27 ∗ hd c M.arg28 fullShare f.f28 ∗ hd c M.arg29 fullShare f.f29 ∗ hd c M.arg30 fullShare f.f30 ∗ hd c M.arg31 fullShare f.f31 ∗ hd c M.arg32 fullShare f.f32 ∗ hd c M.arg33 fullShare f.f33 ∗ hd c M.arg34 fullShare f.f34 ∗ hd c M.arg35 fullShare f.f35 ∗ hd c M.arg36 fullShare f.f36 ∗ hd c M.arg37 fullShare f.f37 ∗ hd c M.arg38 fullShare f.f38 ∗ (held c M X3 X4 X5 X6 X7 X8 X9 X10 X11 X12 X13 X14 X15 X16 X17 X18 X19 X20 X21 X22 -∗ Q ⟨⟩))
    ⊢ wp frame (wpE (defs₀ (F := F)) Variants.none c none) Set.univ (cc0_mixer_skel M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 M.arg28 M.harg28 M.arg29 M.harg29 M.arg30 M.harg30 M.arg31 M.harg31 M.arg32 M.harg32 M.arg33 M.harg33 M.arg34 M.harg34 M.arg35 M.harg35 M.arg36 M.harg36 M.arg37 M.harg37 M.arg38 M.harg38) Q :=
  by
  obtain ⟨G, hG⟩ := run c M f (fun _ => fullShare)
  refine BIBase.Entails.trans ?_ (hG Q)
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.sep_mono (.refl _) ?_
  refine Idealize.SL.BI.Laws.wand_mono (PROP := sProp 𝕄) ?_ .rfl
  refine Idealize.SL.BI.sep_mono (own_of c M.arg3 f.f3 e3) ?_
  refine Idealize.SL.BI.sep_mono (own_of c M.arg4 f.f4 e4) ?_
  refine Idealize.SL.BI.sep_mono (own_of c M.arg5 f.f5 e5) ?_
  refine Idealize.SL.BI.sep_mono (own_of c M.arg6 f.f6 e6) ?_
  refine Idealize.SL.BI.sep_mono (own_of c M.arg7 f.f7 e7) ?_
  refine Idealize.SL.BI.sep_mono (own_of c M.arg8 f.f8 e8) ?_
  refine Idealize.SL.BI.sep_mono (own_of c M.arg9 f.f9 e9) ?_
  refine Idealize.SL.BI.sep_mono (own_of c M.arg10 f.f10 e10) ?_
  refine Idealize.SL.BI.sep_mono (own_of c M.arg11 f.f11 e11) ?_
  refine Idealize.SL.BI.sep_mono (own_of c M.arg12 f.f12 e12) ?_
  refine Idealize.SL.BI.sep_mono (own_of c M.arg13 f.f13 e13) ?_
  refine Idealize.SL.BI.sep_mono (own_of c M.arg14 f.f14 e14) ?_
  refine Idealize.SL.BI.sep_mono (own_of c M.arg15 f.f15 e15) ?_
  refine Idealize.SL.BI.sep_mono (own_of c M.arg16 f.f16 e16) ?_
  refine Idealize.SL.BI.sep_mono (own_of c M.arg17 f.f17 e17) ?_
  refine Idealize.SL.BI.sep_mono (own_of c M.arg18 f.f18 e18) ?_
  refine Idealize.SL.BI.sep_mono (own_of c M.arg19 f.f19 e19) ?_
  refine Idealize.SL.BI.sep_mono (own_of c M.arg20 f.f20 e20) ?_
  refine Idealize.SL.BI.sep_mono (own_of c M.arg21 f.f21 e21) ?_
  refine Idealize.SL.BI.sep_mono (own_of c M.arg22 f.f22 e22) ?_
  refine Idealize.SL.BI.sep_mono (own_some c M.arg23 (G.1)) ?_
  refine Idealize.SL.BI.sep_mono (own_some c M.arg24 (G.2.1)) ?_
  refine Idealize.SL.BI.sep_mono (own_some c M.arg25 (G.2.2.1)) ?_
  refine Idealize.SL.BI.sep_mono (own_some c M.arg26 (G.2.2.2.1)) ?_
  refine Idealize.SL.BI.sep_mono (own_some c M.arg27 (G.2.2.2.2.1)) ?_
  refine Idealize.SL.BI.sep_mono (own_some c M.arg28 (G.2.2.2.2.2.1)) ?_
  refine Idealize.SL.BI.sep_mono (own_some c M.arg29 (G.2.2.2.2.2.2.1)) ?_
  refine Idealize.SL.BI.sep_mono (own_some c M.arg30 (G.2.2.2.2.2.2.2.1)) ?_
  refine Idealize.SL.BI.sep_mono (own_some c M.arg31 (G.2.2.2.2.2.2.2.2.1)) ?_
  refine Idealize.SL.BI.sep_mono (own_some c M.arg32 (G.2.2.2.2.2.2.2.2.2.1)) ?_
  refine Idealize.SL.BI.sep_mono (own_some c M.arg33 (G.2.2.2.2.2.2.2.2.2.2.1)) ?_
  refine Idealize.SL.BI.sep_mono (own_some c M.arg34 (G.2.2.2.2.2.2.2.2.2.2.2.1)) ?_
  refine Idealize.SL.BI.sep_mono (own_some c M.arg35 (G.2.2.2.2.2.2.2.2.2.2.2.2.1)) ?_
  refine Idealize.SL.BI.sep_mono (own_some c M.arg36 (G.2.2.2.2.2.2.2.2.2.2.2.2.2.1)) ?_
  refine Idealize.SL.BI.sep_mono (own_some c M.arg37 (G.2.2.2.2.2.2.2.2.2.2.2.2.2.2.1)) ?_
  exact (own_some c M.arg38 (G.2.2.2.2.2.2.2.2.2.2.2.2.2.2.2))

set_option maxHeartbeats 4000000 in
/-- The body leaves its inputs as they are. -/
theorem sound (c : Dev nD) (M : Bufs) (X3 : S1x512x2048.Idx → Elt F .f32) (X4 : S16x2048.Idx → Elt F .f32) (X5 : S1x2048.Idx → Elt F .f32) (X6 : S2048x512.Idx → Elt F .bf16) (X7 : S2048x512.Idx → Elt F .bf16) (X8 : S2048x512.Idx → Elt F .bf16) (X9 : S2048x512.Idx → Elt F .bf16) (X10 : S2048x512.Idx → Elt F .bf16) (X11 : S1x512x512.Idx → Elt F .bf16) (X12 : S1x512.Idx → Elt F .f32) (X13 : S4x512.Idx → Elt F .f32) (X14 : S1x512.Idx → Elt F .f32) (X15 : S2x256x256.Idx → Elt F .bf16) (X16 : S1x512.Idx → Elt F .f32) (X17 : S2x256x256.Idx → Elt F .bf16) (X18 : S1x512.Idx → Elt F .f32) (X19 : S1x512.Idx → Elt F .f32) (X20 : S512x2048.Idx → Elt F .bf16) (X21 : S32x8192.Idx → Elt F .f32) (X22 : S128x2048.Idx → Elt F .f32) (Q : PUnit → sProp 𝕄) :
    iprop(held c M X3 X4 X5 X6 X7 X8 X9 X10 X11 X12 X13 X14 X15 X16 X17 X18 X19 X20 X21 X22 ∗ (held c M X3 X4 X5 X6 X7 X8 X9 X10 X11 X12 X13 X14 X15 X16 X17 X18 X19 X20 X21 X22 -∗ Q ⟨⟩))
    ⊢ wp frame (wpE (defs₀ (F := F)) Variants.none c none) Set.univ (cc0_mixer_skel M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 M.arg28 M.harg28 M.arg29 M.harg29 M.arg30 M.harg30 M.arg31 M.harg31 M.arg32 M.harg32 M.arg33 M.harg33 M.arg34 M.harg34 M.arg35 M.harg35 M.arg36 M.harg36 M.arg37 M.harg37 M.arg38 M.harg38) Q := by
  unfold held some' owns
  iintro ⟨⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%X23, %f23, -, H23⟩, ⟨%X24, %f24, -, H24⟩, ⟨%X25, %f25, -, H25⟩, ⟨%X26, %f26, -, H26⟩, ⟨%X27, %f27, -, H27⟩, ⟨%X28, %f28, -, H28⟩, ⟨%X29, %f29, -, H29⟩, ⟨%X30, %f30, -, H30⟩, ⟨%X31, %f31, -, H31⟩, ⟨%X32, %f32, -, H32⟩, ⟨%X33, %f33, -, H33⟩, ⟨%X34, %f34, -, H34⟩, ⟨%X35, %f35, -, H35⟩, ⟨%X36, %f36, -, H36⟩, ⟨%X37, %f37, -, H37⟩, ⟨%X38, %f38, -, H38⟩⟩, HQ⟩
  iapply (soundF c M X3 X4 X5 X6 X7 X8 X9 X10 X11 X12 X13 X14 X15 X16 X17 X18 X19 X20 X21 X22 ⟨f3, f4, f5, f6, f7, f8, f9, f10, f11, f12, f13, f14, f15, f16, f17, f18, f19, f20, f21, f22, f23, f24, f25, f26, f27, f28, f29, f30, f31, f32, f33, f34, f35, f36, f37, f38⟩ e3 e4 e5 e6 e7 e8 e9 e10 e11 e12 e13 e14 e15 e16 e17 e18 e19 e20 e21 e22 Q)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  unfold held some' owns
  iexact HQ

end Cert.Proof.Mix

end
-- ==== Proof.MixFrame.lean ====
/- The launch of the mixer: its run ends, its arguments unchanged and its semaphores zero. -/
module
public import proofs.«01_k».proof.Proof.MixFree
public import proofs.«01_k».proof.Proof.Gen.Kernel2Ideal.Launch
public import proofs.«01_k».proof.Proof.Gen.Kernel2Ideal.Points
public import proofs.«01_k».proof.Proof.Gen.Kernel2Ideal.Frame
public import Idealize.ShloMosaic.Lib.Pipeline.Frame
public import Idealize.ShloMosaic.Lib.Tactic
public import Idealize.ShloMosaic.Lib.Pipeline.Kit

@[expose] public section

noncomputable section

namespace Cert.Proof.Mix

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat Cfg Window BodyObligation BodyObligationLoose)

variable (m : (ℓ : Loc nD τ sig) → Buf (Elt F) ℓ) (ρ : Dev nD → PrngReg)

/-- The outputs, of which the frame says nothing. -/
def forgets : Fin 23 → Bool := fun w => decide (20 ≤ w.val)

/-- The proof data: the inputs' blocks, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | w => Dat.unnamed w t
  Φ _ := Pipeline.ΦA spec0 c
  q w := Pipeline.shareOf spec0 w
  owed _ := 0

theorem A_eq (c : Dev nD) (w) : (dats (F := F) m 0 c).A w = V m c (Pipeline.arrRef spec0 w) := rfl

/-- The buffers of a grid point. -/
abbrev bufs (t : Fin cfg0.N) : Bufs where
  i := grid0.coords t
  arg3 := win0_0.stage (cfg0.slots t 0)
  harg3 := hstage0_0 ((cfg0.slots t 0).cast nbuf0_0)
  arg4 := win0_1.stage (cfg0.slots t 1)
  harg4 := hstage0_1 ((cfg0.slots t 1).cast nbuf0_1)
  arg5 := win0_2.stage (cfg0.slots t 2)
  harg5 := hstage0_2 ((cfg0.slots t 2).cast nbuf0_2)
  arg6 := win0_3.stage (cfg0.slots t 3)
  harg6 := hstage0_3 ((cfg0.slots t 3).cast nbuf0_3)
  arg7 := win0_4.stage (cfg0.slots t 4)
  harg7 := hstage0_4 ((cfg0.slots t 4).cast nbuf0_4)
  arg8 := win0_5.stage (cfg0.slots t 5)
  harg8 := hstage0_5 ((cfg0.slots t 5).cast nbuf0_5)
  arg9 := win0_6.stage (cfg0.slots t 6)
  harg9 := hstage0_6 ((cfg0.slots t 6).cast nbuf0_6)
  arg10 := win0_7.stage (cfg0.slots t 7)
  harg10 := hstage0_7 ((cfg0.slots t 7).cast nbuf0_7)
  arg11 := win0_8.stage (cfg0.slots t 8)
  harg11 := hstage0_8 ((cfg0.slots t 8).cast nbuf0_8)
  arg12 := win0_9.stage (cfg0.slots t 9)
  harg12 := hstage0_9 ((cfg0.slots t 9).cast nbuf0_9)
  arg13 := win0_10.stage (cfg0.slots t 10)
  harg13 := hstage0_10 ((cfg0.slots t 10).cast nbuf0_10)
  arg14 := win0_11.stage (cfg0.slots t 11)
  harg14 := hstage0_11 ((cfg0.slots t 11).cast nbuf0_11)
  arg15 := win0_12.stage (cfg0.slots t 12)
  harg15 := hstage0_12 ((cfg0.slots t 12).cast nbuf0_12)
  arg16 := win0_13.stage (cfg0.slots t 13)
  harg16 := hstage0_13 ((cfg0.slots t 13).cast nbuf0_13)
  arg17 := win0_14.stage (cfg0.slots t 14)
  harg17 := hstage0_14 ((cfg0.slots t 14).cast nbuf0_14)
  arg18 := win0_15.stage (cfg0.slots t 15)
  harg18 := hstage0_15 ((cfg0.slots t 15).cast nbuf0_15)
  arg19 := win0_16.stage (cfg0.slots t 16)
  harg19 := hstage0_16 ((cfg0.slots t 16).cast nbuf0_16)
  arg20 := win0_17.stage (cfg0.slots t 17)
  harg20 := hstage0_17 ((cfg0.slots t 17).cast nbuf0_17)
  arg21 := win0_18.stage (cfg0.slots t 18)
  harg21 := hstage0_18 ((cfg0.slots t 18).cast nbuf0_18)
  arg22 := win0_19.stage (cfg0.slots t 19)
  harg22 := hstage0_19 ((cfg0.slots t 19).cast nbuf0_19)
  arg23 := win0_20.stage (cfg0.slots t 20)
  harg23 := hstage0_20 ((cfg0.slots t 20).cast nbuf0_20)
  arg24 := win0_21.stage (cfg0.slots t 21)
  harg24 := hstage0_21 ((cfg0.slots t 21).cast nbuf0_21)
  arg25 := win0_22.stage (cfg0.slots t 22)
  harg25 := hstage0_22 ((cfg0.slots t 22).cast nbuf0_22)
  arg26 := Memref.whole cc0_scratch0
  harg26 := Memref.isWhole_whole _
  arg27 := Memref.whole cc0_scratch1
  harg27 := Memref.isWhole_whole _
  arg28 := Memref.whole cc0_scratch2
  harg28 := Memref.isWhole_whole _
  arg29 := Memref.whole cc0_scratch3
  harg29 := Memref.isWhole_whole _
  arg30 := Memref.whole cc0_scratch4
  harg30 := Memref.isWhole_whole _
  arg31 := Memref.whole cc0_scratch5
  harg31 := Memref.isWhole_whole _
  arg32 := Memref.whole cc0_scratch6
  harg32 := Memref.isWhole_whole _
  arg33 := Memref.whole cc0_scratch7
  harg33 := Memref.isWhole_whole _
  arg34 := Memref.whole cc0_scratch8
  harg34 := Memref.isWhole_whole _
  arg35 := Memref.whole cc0_scratch9
  harg35 := Memref.isWhole_whole _
  arg36 := Memref.whole cc0_scratch10
  harg36 := Memref.isWhole_whole _
  arg37 := Memref.whole cc0_scratch11
  harg37 := Memref.isWhole_whole _
  arg38 := Memref.whole cc0_scratch12
  harg38 := Memref.isWhole_whole _

theorem prog_eq (t : Fin cfg0.N) : (defs₀ (F := F)) .tc cfg0.body (cfg0.bodyArgs t (cfg0.slots t))
    = cc0_mixer_skel (bufs t).i (bufs t).arg3 (bufs t).harg3 (bufs t).arg4 (bufs t).harg4 (bufs t).arg5 (bufs t).harg5 (bufs t).arg6 (bufs t).harg6 (bufs t).arg7 (bufs t).harg7 (bufs t).arg8 (bufs t).harg8 (bufs t).arg9 (bufs t).harg9 (bufs t).arg10 (bufs t).harg10 (bufs t).arg11 (bufs t).harg11 (bufs t).arg12 (bufs t).harg12 (bufs t).arg13 (bufs t).harg13 (bufs t).arg14 (bufs t).harg14 (bufs t).arg15 (bufs t).harg15 (bufs t).arg16 (bufs t).harg16 (bufs t).arg17 (bufs t).harg17 (bufs t).arg18 (bufs t).harg18 (bufs t).arg19 (bufs t).harg19 (bufs t).arg20 (bufs t).harg20 (bufs t).arg21 (bufs t).harg21 (bufs t).arg22 (bufs t).harg22 (bufs t).arg23 (bufs t).harg23 (bufs t).arg24 (bufs t).harg24 (bufs t).arg25 (bufs t).harg25 (bufs t).arg26 (bufs t).harg26 (bufs t).arg27 (bufs t).harg27 (bufs t).arg28 (bufs t).harg28 (bufs t).arg29 (bufs t).harg29 (bufs t).arg30 (bufs t).harg30 (bufs t).arg31 (bufs t).harg31 (bufs t).arg32 (bufs t).harg32 (bufs t).arg33 (bufs t).harg33 (bufs t).arg34 (bufs t).harg34 (bufs t).arg35 (bufs t).harg35 (bufs t).arg36 (bufs t).harg36 (bufs t).arg37 (bufs t).harg37 (bufs t).arg38 (bufs t).harg38 := by
  unfold defs₀; rw [Defs.onTc_tc]; rfl

theorem some_whole (c : Dev nD) (b : Ref sig .tc) :
    (iprop(∃ f : Buf (Elt F) ((c : Thread nD τ).loc b), ((c : Thread nD τ).loc b) ↦{fullShare} f) : sProp 𝕄) = some' c (Memref.whole b) := by
  unfold some'
  congr 1; funext f; exact (owns_whole (c : Thread nD τ) b fullShare f).symm

/-- The rest of the region's scoped buffers, by memref. -/
theorem rest_eq (c : Dev nD) : (Pipeline.scopedRest (Ix := Unit) (Name := ℕ) (U := UR sig nD τ) (Lvl := ℕ) (Val := Elt F) spec0 c : sProp 𝕄)
    = iprop(some' c (Memref.whole cc0_scratch0) ∗ some' c (Memref.whole cc0_scratch1) ∗ some' c (Memref.whole cc0_scratch2) ∗ some' c (Memref.whole cc0_scratch3) ∗ some' c (Memref.whole cc0_scratch4) ∗ some' c (Memref.whole cc0_scratch5) ∗ some' c (Memref.whole cc0_scratch6) ∗ some' c (Memref.whole cc0_scratch7) ∗ some' c (Memref.whole cc0_scratch8) ∗ some' c (Memref.whole cc0_scratch9) ∗ some' c (Memref.whole cc0_scratch10) ∗ some' c (Memref.whole cc0_scratch11) ∗ some' c (Memref.whole cc0_scratch12)) := by
  rw [scopedRest0_eq, some_whole c cc0_scratch0, some_whole c cc0_scratch1, some_whole c cc0_scratch2, some_whole c cc0_scratch3, some_whole c cc0_scratch4, some_whole c cc0_scratch5, some_whole c cc0_scratch6, some_whole c cc0_scratch7, some_whole c cc0_scratch8, some_whole c cc0_scratch9, some_whole c cc0_scratch10, some_whole c cc0_scratch11, some_whole c cc0_scratch12]

theorem before_0 (c : Dev nD) (t : Fin cfg0.N) (d) : (dats (F := F) m 0 c).before 0 t d = iblk m c 0 t :=
  before0_0_of m (dats m 0 c) (A_eq m c 0) (fun _ => rfl) t d
theorem before_1 (c : Dev nD) (t : Fin cfg0.N) (d) : (dats (F := F) m 0 c).before 1 t d = iblk m c 1 t :=
  before0_1_of m (dats m 0 c) (A_eq m c 1) (fun _ => rfl) t d
theorem before_2 (c : Dev nD) (t : Fin cfg0.N) (d) : (dats (F := F) m 0 c).before 2 t d = iblk m c 2 t :=
  before0_2_of m (dats m 0 c) (A_eq m c 2) (fun _ => rfl) t d
theorem before_3 (c : Dev nD) (t : Fin cfg0.N) (d) : (dats (F := F) m 0 c).before 3 t d = iblk m c 3 t :=
  before0_3_of m (dats m 0 c) (A_eq m c 3) (fun _ => rfl) t d
theorem before_4 (c : Dev nD) (t : Fin cfg0.N) (d) : (dats (F := F) m 0 c).before 4 t d = iblk m c 4 t :=
  before0_4_of m (dats m 0 c) (A_eq m c 4) (fun _ => rfl) t d
theorem before_5 (c : Dev nD) (t : Fin cfg0.N) (d) : (dats (F := F) m 0 c).before 5 t d = iblk m c 5 t :=
  before0_5_of m (dats m 0 c) (A_eq m c 5) (fun _ => rfl) t d
theorem before_6 (c : Dev nD) (t : Fin cfg0.N) (d) : (dats (F := F) m 0 c).before 6 t d = iblk m c 6 t :=
  before0_6_of m (dats m 0 c) (A_eq m c 6) (fun _ => rfl) t d
theorem before_7 (c : Dev nD) (t : Fin cfg0.N) (d) : (dats (F := F) m 0 c).before 7 t d = iblk m c 7 t :=
  before0_7_of m (dats m 0 c) (A_eq m c 7) (fun _ => rfl) t d
theorem before_8 (c : Dev nD) (t : Fin cfg0.N) (d) : (dats (F := F) m 0 c).before 8 t d = iblk m c 8 t :=
  before0_8_of m (dats m 0 c) (A_eq m c 8) (fun _ => rfl) t d
theorem before_9 (c : Dev nD) (t : Fin cfg0.N) (d) : (dats (F := F) m 0 c).before 9 t d = iblk m c 9 t :=
  before0_9_of m (dats m 0 c) (A_eq m c 9) (fun _ => rfl) t d
theorem before_10 (c : Dev nD) (t : Fin cfg0.N) (d) : (dats (F := F) m 0 c).before 10 t d = iblk m c 10 t :=
  before0_10_of m (dats m 0 c) (A_eq m c 10) (fun _ => rfl) t d
theorem before_11 (c : Dev nD) (t : Fin cfg0.N) (d) : (dats (F := F) m 0 c).before 11 t d = iblk m c 11 t :=
  before0_11_of m (dats m 0 c) (A_eq m c 11) (fun _ => rfl) t d
theorem before_12 (c : Dev nD) (t : Fin cfg0.N) (d) : (dats (F := F) m 0 c).before 12 t d = iblk m c 12 t :=
  before0_12_of m (dats m 0 c) (A_eq m c 12) (fun _ => rfl) t d
theorem before_13 (c : Dev nD) (t : Fin cfg0.N) (d) : (dats (F := F) m 0 c).before 13 t d = iblk m c 13 t :=
  before0_13_of m (dats m 0 c) (A_eq m c 13) (fun _ => rfl) t d
theorem before_14 (c : Dev nD) (t : Fin cfg0.N) (d) : (dats (F := F) m 0 c).before 14 t d = iblk m c 14 t :=
  before0_14_of m (dats m 0 c) (A_eq m c 14) (fun _ => rfl) t d
theorem before_15 (c : Dev nD) (t : Fin cfg0.N) (d) : (dats (F := F) m 0 c).before 15 t d = iblk m c 15 t :=
  before0_15_of m (dats m 0 c) (A_eq m c 15) (fun _ => rfl) t d
theorem before_16 (c : Dev nD) (t : Fin cfg0.N) (d) : (dats (F := F) m 0 c).before 16 t d = iblk m c 16 t :=
  before0_16_of m (dats m 0 c) (A_eq m c 16) (fun _ => rfl) t d
theorem before_17 (c : Dev nD) (t : Fin cfg0.N) (d) : (dats (F := F) m 0 c).before 17 t d = iblk m c 17 t :=
  before0_17_of m (dats m 0 c) (A_eq m c 17) (fun _ => rfl) t d
theorem before_18 (c : Dev nD) (t : Fin cfg0.N) (d) : (dats (F := F) m 0 c).before 18 t d = iblk m c 18 t :=
  before0_18_of m (dats m 0 c) (A_eq m c 18) (fun _ => rfl) t d
theorem before_19 (c : Dev nD) (t : Fin cfg0.N) (d) : (dats (F := F) m 0 c).before 19 t d = iblk m c 19 t :=
  before0_19_of m (dats m 0 c) (A_eq m c 19) (fun _ => rfl) t d

theorem owns_congr {c : Dev nD} {sp : Space} {s : Shape} {e : EltTy} {M : Memref sig .tc sp s e} {X Y : s.Idx → Elt F e} (h : X = Y) :
    (owns (c : Thread nD τ) M fullShare X : sProp 𝕄) ⊢ owns (c : Thread nD τ) M fullShare Y := h ▸ .rfl

/-- The core owes nothing at any point. -/
theorem owes_step (c : Dev nD) (t : Fin cfg0.N) : (dats (F := F) m 0 c).owesAt () t.castSucc ⊢ (dats (F := F) m 0 c).owesAt () t.succ := by
  unfold Dat.owesAt Pipeline.owesWithin
  rw [show (dats m 0 c).owed t.castSucc = 0 from rfl, show (dats m 0 c).owed t.succ = 0 from rfl]
  iintro ⟨%W, -, HW⟩
  iexists W; isplitr; · ipureintro; exact fun _ _ => Or.inl trivial
  iexact HW

set_option maxHeartbeats 4000000 in
theorem sound_body (c : Dev nD) (t : Fin cfg0.N) :
    iprop(Pipeline.ΦA spec0 c ∗ (dats m 0 c).owesAt () t.castSucc ∗ (∃ d, owns (c : Thread nD τ) ((cfg0.win 0).stage (cfg0.slots t 0)) fullShare ((dats m 0 c).before 0 t d)) ∗ (∃ d, owns (c : Thread nD τ) ((cfg0.win 1).stage (cfg0.slots t 1)) fullShare ((dats m 0 c).before 1 t d)) ∗ (∃ d, owns (c : Thread nD τ) ((cfg0.win 2).stage (cfg0.slots t 2)) fullShare ((dats m 0 c).before 2 t d)) ∗ (∃ d, owns (c : Thread nD τ) ((cfg0.win 3).stage (cfg0.slots t 3)) fullShare ((dats m 0 c).before 3 t d)) ∗ (∃ d, owns (c : Thread nD τ) ((cfg0.win 4).stage (cfg0.slots t 4)) fullShare ((dats m 0 c).before 4 t d)) ∗ (∃ d, owns (c : Thread nD τ) ((cfg0.win 5).stage (cfg0.slots t 5)) fullShare ((dats m 0 c).before 5 t d)) ∗ (∃ d, owns (c : Thread nD τ) ((cfg0.win 6).stage (cfg0.slots t 6)) fullShare ((dats m 0 c).before 6 t d)) ∗ (∃ d, owns (c : Thread nD τ) ((cfg0.win 7).stage (cfg0.slots t 7)) fullShare ((dats m 0 c).before 7 t d)) ∗ (∃ d, owns (c : Thread nD τ) ((cfg0.win 8).stage (cfg0.slots t 8)) fullShare ((dats m 0 c).before 8 t d)) ∗ (∃ d, owns (c : Thread nD τ) ((cfg0.win 9).stage (cfg0.slots t 9)) fullShare ((dats m 0 c).before 9 t d)) ∗ (∃ d, owns (c : Thread nD τ) ((cfg0.win 10).stage (cfg0.slots t 10)) fullShare ((dats m 0 c).before 10 t d)) ∗ (∃ d, owns (c : Thread nD τ) ((cfg0.win 11).stage (cfg0.slots t 11)) fullShare ((dats m 0 c).before 11 t d)) ∗ (∃ d, owns (c : Thread nD τ) ((cfg0.win 12).stage (cfg0.slots t 12)) fullShare ((dats m 0 c).before 12 t d)) ∗ (∃ d, owns (c : Thread nD τ) ((cfg0.win 13).stage (cfg0.slots t 13)) fullShare ((dats m 0 c).before 13 t d)) ∗ (∃ d, owns (c : Thread nD τ) ((cfg0.win 14).stage (cfg0.slots t 14)) fullShare ((dats m 0 c).before 14 t d)) ∗ (∃ d, owns (c : Thread nD τ) ((cfg0.win 15).stage (cfg0.slots t 15)) fullShare ((dats m 0 c).before 15 t d)) ∗ (∃ d, owns (c : Thread nD τ) ((cfg0.win 16).stage (cfg0.slots t 16)) fullShare ((dats m 0 c).before 16 t d)) ∗ (∃ d, owns (c : Thread nD τ) ((cfg0.win 17).stage (cfg0.slots t 17)) fullShare ((dats m 0 c).before 17 t d)) ∗ (∃ d, owns (c : Thread nD τ) ((cfg0.win 18).stage (cfg0.slots t 18)) fullShare ((dats m 0 c).before 18 t d)) ∗ (∃ d, owns (c : Thread nD τ) ((cfg0.win 19).stage (cfg0.slots t 19)) fullShare ((dats m 0 c).before 19 t d)) ∗ (∃ X, owns (c : Thread nD τ) ((cfg0.win 20).stage (cfg0.slots t 20)) fullShare X) ∗ (∃ X, owns (c : Thread nD τ) ((cfg0.win 21).stage (cfg0.slots t 21)) fullShare X) ∗ (∃ X, owns (c : Thread nD τ) ((cfg0.win 22).stage (cfg0.slots t 22)) fullShare X))
    ⊢ wp frame (wpE (defs₀ (F := F)) Variants.none c none) Set.univ ((defs₀ (F := F)) .tc cfg0.body (cfg0.bodyArgs t (cfg0.slots t))) fun _ =>
      iprop(Pipeline.ΦA spec0 c ∗ (dats m 0 c).owesAt () t.succ ∗ owns (c : Thread nD τ) ((cfg0.win 0).stage (cfg0.slots t 0)) fullShare ((dats m 0 c).after 0 t) ∗ owns (c : Thread nD τ) ((cfg0.win 1).stage (cfg0.slots t 1)) fullShare ((dats m 0 c).after 1 t) ∗ owns (c : Thread nD τ) ((cfg0.win 2).stage (cfg0.slots t 2)) fullShare ((dats m 0 c).after 2 t) ∗ owns (c : Thread nD τ) ((cfg0.win 3).stage (cfg0.slots t 3)) fullShare ((dats m 0 c).after 3 t) ∗ owns (c : Thread nD τ) ((cfg0.win 4).stage (cfg0.slots t 4)) fullShare ((dats m 0 c).after 4 t) ∗ owns (c : Thread nD τ) ((cfg0.win 5).stage (cfg0.slots t 5)) fullShare ((dats m 0 c).after 5 t) ∗ owns (c : Thread nD τ) ((cfg0.win 6).stage (cfg0.slots t 6)) fullShare ((dats m 0 c).after 6 t) ∗ owns (c : Thread nD τ) ((cfg0.win 7).stage (cfg0.slots t 7)) fullShare ((dats m 0 c).after 7 t) ∗ owns (c : Thread nD τ) ((cfg0.win 8).stage (cfg0.slots t 8)) fullShare ((dats m 0 c).after 8 t) ∗ owns (c : Thread nD τ) ((cfg0.win 9).stage (cfg0.slots t 9)) fullShare ((dats m 0 c).after 9 t) ∗ owns (c : Thread nD τ) ((cfg0.win 10).stage (cfg0.slots t 10)) fullShare ((dats m 0 c).after 10 t) ∗ owns (c : Thread nD τ) ((cfg0.win 11).stage (cfg0.slots t 11)) fullShare ((dats m 0 c).after 11 t) ∗ owns (c : Thread nD τ) ((cfg0.win 12).stage (cfg0.slots t 12)) fullShare ((dats m 0 c).after 12 t) ∗ owns (c : Thread nD τ) ((cfg0.win 13).stage (cfg0.slots t 13)) fullShare ((dats m 0 c).after 13 t) ∗ owns (c : Thread nD τ) ((cfg0.win 14).stage (cfg0.slots t 14)) fullShare ((dats m 0 c).after 14 t) ∗ owns (c : Thread nD τ) ((cfg0.win 15).stage (cfg0.slots t 15)) fullShare ((dats m 0 c).after 15 t) ∗ owns (c : Thread nD τ) ((cfg0.win 16).stage (cfg0.slots t 16)) fullShare ((dats m 0 c).after 16 t) ∗ owns (c : Thread nD τ) ((cfg0.win 17).stage (cfg0.slots t 17)) fullShare ((dats m 0 c).after 17 t) ∗ owns (c : Thread nD τ) ((cfg0.win 18).stage (cfg0.slots t 18)) fullShare ((dats m 0 c).after 18 t) ∗ owns (c : Thread nD τ) ((cfg0.win 19).stage (cfg0.slots t 19)) fullShare ((dats m 0 c).after 19 t) ∗ (∃ X, owns (c : Thread nD τ) ((cfg0.win 20).stage (cfg0.slots t 20)) fullShare X) ∗ (∃ X, owns (c : Thread nD τ) ((cfg0.win 21).stage (cfg0.slots t 21)) fullShare X) ∗ (∃ X, owns (c : Thread nD τ) ((cfg0.win 22).stage (cfg0.slots t 22)) fullShare X)) := by
  rw [prog_eq t]
  unfold Pipeline.ΦA
  rw [rest_eq]
  iintro ⟨⟨⟨S0, S1, S2, S3, S4, S5, S6, S7, S8, S9, S10, S11, S12⟩, HR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, H20, H21, H22⟩
  iapply (sound c (bufs t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _)
  unfold held
  isplitl [H0 H1 H2 H3 H4 H5 H6 H7 H8 H9 H10 H11 H12 H13 H14 H15 H16 H17 H18 H19 H20 H21 H22 S0 S1 S2 S3 S4 S5 S6 S7 S8 S9 S10 S11 S12]
  · isplitl [H0]; · iapply (owns_congr (before_0 m c t d0)); iexact H0
    isplitl [H1]; · iapply (owns_congr (before_1 m c t d1)); iexact H1
    isplitl [H2]; · iapply (owns_congr (before_2 m c t d2)); iexact H2
    isplitl [H3]; · iapply (owns_congr (before_3 m c t d3)); iexact H3
    isplitl [H4]; · iapply (owns_congr (before_4 m c t d4)); iexact H4
    isplitl [H5]; · iapply (owns_congr (before_5 m c t d5)); iexact H5
    isplitl [H6]; · iapply (owns_congr (before_6 m c t d6)); iexact H6
    isplitl [H7]; · iapply (owns_congr (before_7 m c t d7)); iexact H7
    isplitl [H8]; · iapply (owns_congr (before_8 m c t d8)); iexact H8
    isplitl [H9]; · iapply (owns_congr (before_9 m c t d9)); iexact H9
    isplitl [H10]; · iapply (owns_congr (before_10 m c t d10)); iexact H10
    isplitl [H11]; · iapply (owns_congr (before_11 m c t d11)); iexact H11
    isplitl [H12]; · iapply (owns_congr (before_12 m c t d12)); iexact H12
    isplitl [H13]; · iapply (owns_congr (before_13 m c t d13)); iexact H13
    isplitl [H14]; · iapply (owns_congr (before_14 m c t d14)); iexact H14
    isplitl [H15]; · iapply (owns_congr (before_15 m c t d15)); iexact H15
    isplitl [H16]; · iapply (owns_congr (before_16 m c t d16)); iexact H16
    isplitl [H17]; · iapply (owns_congr (before_17 m c t d17)); iexact H17
    isplitl [H18]; · iapply (owns_congr (before_18 m c t d18)); iexact H18
    isplitl [H19]; · iapply (owns_congr (before_19 m c t d19)); iexact H19
    isplitl [H20]; · iexact H20
    isplitl [H21]; · iexact H21
    isplitl [H22]; · iexact H22
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    iexact S12
  iintro ⟨H0, H1, H2, H3, H4, H5, H6, H7, H8, H9, H10, H11, H12, H13, H14, H15, H16, H17, H18, H19, H20, H21, H22, S0, S1, S2, S3, S4, S5, S6, S7, S8, S9, S10, S11, S12⟩
  isplitl [S0 S1 S2 S3 S4 S5 S6 S7 S8 S9 S10 S11 S12 HR]
  · isplitr [HR]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact S12
    iexact HR
  isplitl [HO]; · iapply (owes_step m c t); iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

set_option maxHeartbeats 4000000 in
theorem body_obligation (c : Dev nD) :
    BodyObligationLoose (dats (F := F) m 0 c) (defs₀ (F := F)) Variants.none () Set.univ forgets := fun t => by
  rw [bigSep_W0, bigSep_W0]
  exact sound_body m c t

set_option backward.isDefEq.respectTransparency.types false in
/-- Every run of the mixer ends, its arrays held as the frame states and its semaphores at zero. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_track_forget_shared (Q' := _) cfgs (dats m) (0 : Fin 1) launch₀0 defs₀ Variants.none forgets m ρ main
    (hbody := body_obligation m) (hq := fun _ _ _ => rfl) (howed := fun _ _ => rfl) (V := V m) (hmain := hmain m Variants.none) (hA := A_eq m)
    (hin := fun _ => .rfl) (hout := fun _ => .rfl) (hQ' := fun _ h => h)

set_option maxHeartbeats 4000000 in
/-- The mixer's arguments end as they were. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) ∧ r.2.sem = fun _ => 0) :=
  (θ_run defs _ _).mono (fun _ h => ⟨fun c => ⟨(h.1.arr_in c 0 rfl).trans (V_main_arg0 m c),
    (h.1.arr_in c 1 rfl).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    ((h.1 c).2 main_arg9 (Pipeline.mem_restRefs_of main_arg9 (by decide) (by decide))).trans (V_main_arg9 m c),
    ((h.1 c).2 main_arg10 (Pipeline.mem_restRefs_of main_arg10 (by decide) (by decide))).trans (V_main_arg10 m c),
    ((h.1 c).2 main_arg11 (Pipeline.mem_restRefs_of main_arg11 (by decide) (by decide))).trans (V_main_arg11 m c),
    ((h.1 c).2 main_arg12 (Pipeline.mem_restRefs_of main_arg12 (by decide) (by decide))).trans (V_main_arg12 m c),
    ((h.1 c).2 main_arg13 (Pipeline.mem_restRefs_of main_arg13 (by decide) (by decide))).trans (V_main_arg13 m c),
    ((h.1 c).2 main_arg14 (Pipeline.mem_restRefs_of main_arg14 (by decide) (by decide))).trans (V_main_arg14 m c),
    ((h.1 c).2 main_arg15 (Pipeline.mem_restRefs_of main_arg15 (by decide) (by decide))).trans (V_main_arg15 m c)⟩, h.2⟩) (run_main m ρ)

end Cert.Proof.Mix

end
-- ==== Proof.MixSame.lean ====
/- The mixer at the machine's float values is its idealization at them: the two programs are the same, part by part. -/
module
public import proofs.«01_k».proof.Defs
public import proofs.«01_k».proof.Proof.MixFrame
public import proofs.«01_k».proof.Proof.Gen.Kernel2
public import proofs.«01_k».proof.Proof.Gen.Kernel2Ideal

@[expose] public section

noncomputable section

namespace Cert.Proof.Mix

open Idealize.ShloMosaic Idealize.ShloMosaic.TcCoe Idealize.SL.Sem

set_option maxHeartbeats 400000 in
theorem body_same : Cert.Kernel2.cc0_mixer (F := Bits) = Cert.Kernel2Ideal.cc0_mixer (F := Bits) := rfl

set_option maxHeartbeats 4000000 in
/-- The table of bodies has one row, the mixer's body. -/
theorem bodies_same : (Cert.Kernel2.defs₀ (F := Bits)) = (Cert.Kernel2Ideal.defs₀ (F := Bits)) := by
  unfold Cert.Kernel2.defs₀ Cert.Kernel2Ideal.defs₀
  refine congrArg Defs.onTc ?_
  funext l a
  match l, a with
  | 0, (t, s) =>
    dsimp only
    rw [body_same]
    rfl

set_option maxHeartbeats 4000000 in
theorem defs_same : Cert.Kernel2.defs (F := Bits) = Cert.Kernel2Ideal.defs (F := Bits) := by
  unfold Cert.Kernel2.defs Cert.Kernel2Ideal.defs
  rw [bodies_same]
  rfl

set_option maxHeartbeats 8000000 in
theorem main_same : Cert.Kernel2.main (F := Bits) = Cert.Kernel2Ideal.main (F := Bits) := rfl

set_option maxHeartbeats 4000000 in
/-- The frame of the mixer, from the run that is over any float values. -/
theorem frame_kernel : Cert.quiescent_Kernel2 := fun m ρ _ => by
  rw [defs_same, main_same]
  exact run_args (F := Bits) m ρ

theorem frame_ideal : Cert.quiescent_Kernel2Ideal := fun m ρ _ => run_args (F := Ideal) m ρ

end Cert.Proof.Mix

end
-- ==== Proof.lean ====
/- The claims about the layer's two calls: the frames of the mlp kernel, of its idealization and of its reference, that the
   idealized mlp kernel's result is the reference's, and the frames of the mixer kernel and of its idealization. -/
module

public import proofs.«01_k».proof.Defs
public import proofs.«01_k».proof.Proof.Result
public import proofs.«01_k».proof.Proof.MixSame
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.ReferenceIdeal.Read
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

theorem frame_kernel : Cert.quiescent_Kernel := fun m ρ _ =>
  (θ_run Cert.KernelIdeal.defs _ _).mono (fun _ h => ⟨fun c => (h.1 c).2, h.2⟩) (Mlp.run_main (F := Bits) m ρ)

theorem frame_ideal : Cert.quiescent_KernelIdeal := fun m ρ _ =>
  (θ_run Cert.KernelIdeal.defs _ _).mono (fun _ h => ⟨fun c => (h.1 c).2, h.2⟩) (Mlp.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := fun m ρ m' ρ' _ hagree =>
  ⟨fun c => Mlp.result m c,
    (θ_run Cert.KernelIdeal.defs _ _).mono (fun _ h c => ⟨Mlp.result_of_blocks m c _ (h.1 c).1, (h.1 c).2⟩) (Mlp.run_main (F := Ideal) m ρ),
    (θ_run Cert.ReferenceIdeal.defs _ _).mono (fun _ h c => ⟨(h c).1.trans
      (Mlp.reference_eq m c m' (hagree c).1 (hagree c).2.1 (hagree c).2.2.1 (hagree c).2.2.2.1 (hagree c).2.2.2.2), (h c).2⟩)
      (Cert.ReferenceIdeal.Value.run (F := Ideal) m' ρ')⟩

theorem claim : Cert.Claim := ⟨Cert.Kernel.Gen.facts, Cert.KernelIdeal.Gen.facts, Cert.ReferenceIdeal.Gen.facts,
  Cert.Kernel2.Gen.facts, Cert.Kernel2Ideal.Gen.facts,
  frame_kernel, frame_ideal, frame_reference, Mix.frame_kernel, Mix.frame_ideal, trivial, algebraic, trivial⟩

end Cert.Proof

end
